-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_masked_residue [hPre_no_masked_residue : Cert.Pre_no_masked_residue.Facts] (m : (ℓ : Loc Cert.KernelIdeal.nD Cert.KernelIdeal.τ Cert.KernelIdeal.sig) → Buf (Elt Ideal) ℓ) : Prop :=
  ∀ c : Dev Cert.KernelIdeal.nD,
    (Cert.Pre_no_masked_residue.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_masked_residue [hPre_no_masked_residue : Cert.Pre_no_masked_residue.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_masked_residue.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_no_masked_residue [hKernelIdeal : Cert.KernelIdeal.Facts] [hPre_no_masked_residue : Cert.Pre_no_masked_residue.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_masked_residue m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_no_masked_residue [hReferenceIdeal : Cert.ReferenceIdeal.Facts] [hPre_no_masked_residue : Cert.Pre_no_masked_residue.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_masked_residue m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_no_masked_residue [hKernelIdeal : Cert.KernelIdeal.Facts] [hReferenceIdeal : Cert.ReferenceIdeal.Facts] [hPre_no_masked_residue : Cert.Pre_no_masked_residue.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_masked_residue m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v81)) (v1 : (c : Dev Cert.KernelIdeal.nD) → Buf (Elt Ideal) ((c.tc : Thread Cert.KernelIdeal.nD Cert.KernelIdeal.τ).loc Cert.KernelIdeal.main_v62_1)) (v2 : (c : Dev Cert.KernelIdeal.nD) → Buf (Elt Ideal) ((c.tc : Thread Cert.KernelIdeal.nD Cert.KernelIdeal.τ).loc Cert.KernelIdeal.main_v80_2)) (v3 : (c : Dev Cert.KernelIdeal.nD) → Buf (Elt Ideal) ((c.tc : Thread Cert.KernelIdeal.nD Cert.KernelIdeal.τ).loc Cert.KernelIdeal.main_v86)) (v4 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_v62_1) = v1 c
          ∧ r.2.mem ((c.tc : Thread Cert.KernelIdeal.nD Cert.KernelIdeal.τ).loc Cert.KernelIdeal.main_v80_2) = v2 c
          ∧ r.2.mem ((c.tc : Thread Cert.KernelIdeal.nD Cert.KernelIdeal.τ).loc Cert.KernelIdeal.main_v86) = v3 c
          ∧ r.2.mem ((c.tc : Thread Cert.KernelIdeal.nD Cert.KernelIdeal.τ).loc Cert.KernelIdeal.main_v84) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v160) = v2 c
          ∧ r.2.mem ((c.tc : Thread Cert.ReferenceIdeal.nD Cert.ReferenceIdeal.τ).loc Cert.ReferenceIdeal.main_v86) = v3 c
          ∧ r.2.mem ((c.tc : Thread Cert.ReferenceIdeal.nD Cert.ReferenceIdeal.τ).loc Cert.ReferenceIdeal.main_v165) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_no_masked_residue : Cert.Pre_no_masked_residue.Facts),
    quiescent_Kernel (hKernel := hKernel)
    ∧ quiescent_KernelIdeal (hKernelIdeal := hKernelIdeal)
    ∧ quiescent_KernelIdeal_pre_no_masked_residue (hKernelIdeal := hKernelIdeal) (hPre_no_masked_residue := hPre_no_masked_residue)
    ∧ quiescent_ReferenceIdeal (hReferenceIdeal := hReferenceIdeal)
    ∧ quiescent_ReferenceIdeal_pre_no_masked_residue (hReferenceIdeal := hReferenceIdeal) (hPre_no_masked_residue := hPre_no_masked_residue)
    ∧ preserves_Kernel_KernelIdeal
    ∧ algebraic_KernelIdeal_ReferenceIdeal_pre_no_masked_residue (hKernelIdeal := hKernelIdeal) (hReferenceIdeal := hReferenceIdeal) (hPre_no_masked_residue := hPre_no_masked_residue)
-- ==== Pre_no_masked_residue.lean ====
abbrev S2x512x3x3 : Shape := ⟨4, ![2, 512, 3, 3]⟩
abbrev S2x512 : Shape := ⟨2, ![2, 512]⟩
abbrev S128 : Shape := ⟨1, ![128]⟩
abbrev S128x128 : Shape := ⟨2, ![128, 128]⟩
abbrev S256 : Shape := ⟨1, ![256]⟩
abbrev S256x128 : Shape := ⟨2, ![256, 128]⟩
abbrev S21x128 : Shape := ⟨2, ![21, 128]⟩
abbrev S16 : Shape := ⟨1, ![16]⟩
abbrev S_ : Shape := ⟨0, ![]⟩

class Facts : Prop where
  bcast_S_S2x512 : S_.BroadcastsInDim S2x512 (![] : Fin 0 → Fin S2x512.rank)

variable [Facts]

def fn {F : FTy → Type} [FloatOps F] (main_arg0 : FVec F S2x512x3x3 .f32) (main_arg1 : IVec S2x512 32) (main_arg2 : IVec S2x512 32) (main_arg3 : IVec S2x512 1) (main_arg4 : IVec S2x512 32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S256 .f32) (main_arg12 : FVec F S256 .f32) (main_arg13 : FVec F S256x128 .f32) (main_arg14 : FVec F S128 .f32) (main_arg15 : FVec F S21x128 .f32) (main_arg16 : FVec F S128 .f32) (main_arg17 : FVec F S16 .f32) : IVec S2x512 1 :=
  let main_c : IVec S_ 32 := constantI S_ 32 4294967295#32
  let main_v0 : IVec S2x512 32 := broadcastInDim S2x512 ![] bcast_S_S2x512 main_c
  let main_v1 : IVec S2x512 1 := cmpi .ne main_arg1 main_v0
  let main_v2 : IVec S2x512 1 := noti main_arg3
  let main_v3 : IVec S2x512 1 := andi main_v1 main_v2
  main_v3
-- ==== Kernel.lean ====
abbrev S2x512x3x3 : Shape := ⟨4, ![2, 512, 3, 3]⟩
abbrev S2x512 : Shape := ⟨2, ![2, 512]⟩
abbrev S128 : Shape := ⟨1, ![128]⟩
abbrev S128x128 : Shape := ⟨2, ![128, 128]⟩
abbrev S256 : Shape := ⟨1, ![256]⟩
abbrev S256x128 : Shape := ⟨2, ![256, 128]⟩
abbrev S21x128 : Shape := ⟨2, ![21, 128]⟩
abbrev S16 : Shape := ⟨1, ![16]⟩
abbrev S128x1 : Shape := ⟨2, ![128, 1]⟩
abbrev S24x128 : Shape := ⟨2, ![24, 128]⟩
abbrev S960x32 : Shape := ⟨2, ![960, 32]⟩
abbrev S128x48 : Shape := ⟨2, ![128, 48]⟩
abbrev S48x16 : Shape := ⟨2, ![48, 16]⟩
abbrev S16x256 : Shape := ⟨2, ![16, 256]⟩
abbrev S2x512x1x3 : Shape := ⟨4, ![2, 512, 1, 3]⟩
abbrev S2x512x3 : Shape := ⟨3, ![2, 512, 3]⟩
abbrev S2x512x1 : Shape := ⟨3, ![2, 512, 1]⟩
abbrev S1x2x512 : Shape := ⟨3, ![1, 2, 512]⟩
abbrev S3x2x512 : Shape := ⟨3, ![3, 2, 512]⟩
abbrev S_ : Shape := ⟨0, ![]⟩
abbrev S2x512x128 : Shape := ⟨3, ![2, 512, 128]⟩
abbrev S1 : Shape := ⟨1, ![1]⟩
abbrev S2x8x512 : Shape := ⟨3, ![2, 8, 512]⟩
abbrev S2x3x512 : Shape := ⟨3, ![2, 3, 512]⟩
abbrev S1x128 : Shape := ⟨2, ![1, 128]⟩
abbrev S24x128x1 : Shape := ⟨3, ![24, 128, 1]⟩
abbrev S1x128x128 : Shape := ⟨3, ![1, 128, 128]⟩
abbrev S24x128x128 : Shape := ⟨3, ![24, 128, 128]⟩
abbrev S3072x128 : Shape := ⟨2, ![3072, 128]⟩
abbrev S2x512x30 : Shape := ⟨3, ![2, 512, 30]⟩
abbrev S1x32x128 : Shape := ⟨3, ![1, 32, 128]⟩
abbrev S1x8x512 : Shape := ⟨3, ![1, 8, 512]⟩
abbrev S1x32x30 : Shape := ⟨3, ![1, 32, 30]⟩
abbrev S32x128 : Shape := ⟨2, ![32, 128]⟩
abbrev S32x1 : Shape := ⟨2, ![32, 1]⟩
abbrev S1x1x512 : Shape := ⟨3, ![1, 1, 512]⟩
abbrev S1x512 : Shape := ⟨2, ![1, 512]⟩
abbrev S32x512 : Shape := ⟨2, ![32, 512]⟩
abbrev S32x3072 : Shape := ⟨2, ![32, 3072]⟩
abbrev S64x3072 : Shape := ⟨2, ![64, 3072]⟩
abbrev S64x128 : Shape := ⟨2, ![64, 128]⟩
abbrev S32 : Shape := ⟨1, ![32]⟩
abbrev S32x30 : Shape := ⟨2, ![32, 30]⟩
abbrev S1x16 : Shape := ⟨2, ![1, 16]⟩
abbrev S1x1x1x16 : Shape := ⟨4, ![1, 1, 1, 16]⟩
abbrev S1x1x16x16 : Shape := ⟨4, ![1, 1, 16, 16]⟩
abbrev S1x256 : Shape := ⟨2, ![1, 256]⟩
abbrev S2x15360x1 : Shape := ⟨3, ![2, 15360, 1]⟩
abbrev S2x15360x128 : Shape := ⟨3, ![2, 15360, 128]⟩
abbrev S1x960x1 : Shape := ⟨3, ![1, 960, 1]⟩
abbrev S1x32x1 : Shape := ⟨3, ![1, 32, 1]⟩
abbrev S1x512x128 : Shape := ⟨3, ![1, 512, 128]⟩
abbrev S1x960x128 : Shape := ⟨3, ![1, 960, 128]⟩
abbrev S512x128 : Shape := ⟨2, ![512, 128]⟩
abbrev S960x1 : Shape := ⟨2, ![960, 1]⟩
abbrev S960x512 : Shape := ⟨2, ![960, 512]⟩
abbrev S960x128 : Shape := ⟨2, ![960, 128]⟩
abbrev S960x48 : Shape := ⟨2, ![960, 48]⟩
abbrev S960x16 : Shape := ⟨2, ![960, 16]⟩
abbrev S960x256 : Shape := ⟨2, ![960, 256]⟩
abbrev S960 : Shape := ⟨1, ![960]⟩
abbrev S2x512x30x128 : Shape := ⟨4, ![2, 512, 30, 128]⟩

abbrev nBuf : Space → Nat
  | .hbm => 164
  | .vmem => 44
  | .smem => 0
  | _ => 0

abbrev hbmTy0_0 (i : Nat) : BufTy := match i % 128 with
  | 0 => ⟨S2x512x3x3, .f32⟩
  | 1 => ⟨S2x512, .i32⟩
  | 2 => ⟨S2x512, .i32⟩
  | 3 => ⟨S2x512, .i1⟩
  | 4 => ⟨S2x512, .i32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S256, .f32⟩
  | 12 => ⟨S256, .f32⟩
  | 13 => ⟨S256x128, .f32⟩
  | 14 => ⟨S128, .f32⟩
  | 15 => ⟨S21x128, .f32⟩
  | 16 => ⟨S128, .f32⟩
  | 17 => ⟨S16, .f32⟩
  | 18 => ⟨S128x1, .f32⟩
  | 19 => ⟨S24x128, .f32⟩
  | 20 => ⟨S960x32, .f32⟩
  | 21 => ⟨S128x48, .f32⟩
  | 22 => ⟨S128x48, .f32⟩
  | 23 => ⟨S48x16, .f32⟩
  | 24 => ⟨S16x256, .f32⟩
  | 25 => ⟨S2x512x1x3, .f32⟩
  | 26 => ⟨S2x512x3, .f32⟩
  | 27 => ⟨S2x512x1x3, .f32⟩
  | 28 => ⟨S2x512x3, .f32⟩
  | 29 => ⟨S2x512x1x3, .f32⟩
  | 30 => ⟨S2x512x3, .f32⟩
  | 31 => ⟨S2x512x3, .f32⟩
  | 32 => ⟨S2x512x3, .f32⟩
  | 33 => ⟨S2x512x1, .f32⟩
  | 34 => ⟨S2x512, .f32⟩
  | 35 => ⟨S2x512x1, .f32⟩
  | 36 => ⟨S2x512, .f32⟩
  | 37 => ⟨S2x512x1, .f32⟩
  | 38 => ⟨S2x512, .f32⟩
  | 39 => ⟨S2x512x1, .f32⟩
  | 40 => ⟨S2x512, .f32⟩
  | 41 => ⟨S2x512x1, .f32⟩
  | 42 => ⟨S2x512, .f32⟩
  | 43 => ⟨S2x512x1, .f32⟩
  | 44 => ⟨S2x512, .f32⟩
  | 45 => ⟨S2x512, .f32⟩
  | 46 => ⟨S2x512, .f32⟩
  | 47 => ⟨S2x512, .f32⟩
  | 48 => ⟨S2x512, .f32⟩
  | 49 => ⟨S2x512, .f32⟩
  | 50 => ⟨S2x512, .f32⟩
  | 51 => ⟨S2x512, .f32⟩
  | 52 => ⟨S2x512, .f32⟩
  | 53 => ⟨S2x512, .f32⟩
  | 54 => ⟨S1x2x512, .f32⟩
  | 55 => ⟨S1x2x512, .f32⟩
  | 56 => ⟨S1x2x512, .f32⟩
  | 57 => ⟨S3x2x512, .f32⟩
  | 58 => ⟨S2x512x3, .f32⟩
  | 59 => ⟨S_, .f32⟩
  | 60 => ⟨S2x512x3, .f32⟩
  | 61 => ⟨S2x512x3, .f32⟩
  | 62 => ⟨S_, .f32⟩
  | 63 => ⟨S2x512x3, .f32⟩
  | 64 => ⟨S2x512x3, .f32⟩
  | 65 => ⟨S2x512x3, .f32⟩
  | 66 => ⟨S_, .f32⟩
  | 67 => ⟨S2x512x3, .f32⟩
  | 68 => ⟨S2x512x3, .f32⟩
  | 69 => ⟨S2x512x3, .f32⟩
  | 70 => ⟨S2x512x3, .f32⟩
  | 71 => ⟨S2x512x3, .f32⟩
  | 72 => ⟨S2x512x3, .f32⟩
  | 73 => ⟨S_, .f32⟩
  | 74 => ⟨S2x512, .f32⟩
  | 75 => ⟨S2x512x1, .f32⟩
  | 76 => ⟨S2x512x1, .f32⟩
  | 77 => ⟨S_, .f32⟩
  | 78 => ⟨S2x512x1, .f32⟩
  | 79 => ⟨S2x512x1, .f32⟩
  | 80 => ⟨S2x512x3, .f32⟩
  | 81 => ⟨S2x512x3, .f32⟩
  | 82 => ⟨S_, .f32⟩
  | 83 => ⟨S2x512x128, .f32⟩
  | 84 => ⟨S_, .i32⟩
  | 85 => ⟨S1, .i32⟩
  | 86 => ⟨S2x512x128, .f32⟩
  | 87 => ⟨S_, .i32⟩
  | 88 => ⟨S1, .i32⟩
  | 89 => ⟨S2x512x128, .f32⟩
  | 90 => ⟨S_, .i32⟩
  | 91 => ⟨S1, .i32⟩
  | 92 => ⟨S2x512x128, .f32⟩
  | 93 => ⟨S2x512x3, .f32⟩
  | 94 => ⟨S_, .i32⟩
  | 95 => ⟨S1, .i32⟩
  | 96 => ⟨S2x512x128, .f32⟩
  | 97 => ⟨S2x512, .f32⟩
  | 98 => ⟨S_, .i32⟩
  | 99 => ⟨S1, .i32⟩
  | 100 => ⟨S2x512x128, .f32⟩
  | 101 => ⟨S_, .i32⟩
  | 102 => ⟨S1, .i32⟩
  | 103 => ⟨S2x512x128, .f32⟩
  | 104 => ⟨S_, .f32⟩
  | 105 => ⟨S2x8x512, .f32⟩
  | 106 => ⟨S2x3x512, .f32⟩
  | 107 => ⟨S_, .i32⟩
  | 108 => ⟨S1, .i32⟩
  | 109 => ⟨S2x8x512, .f32⟩
  | 110 => ⟨S_, .f32⟩
  | 111 => ⟨S128, .f32⟩
  | 112 => ⟨S128, .f32⟩
  | 113 => ⟨S1x128, .f32⟩
  | 114 => ⟨S128x128, .f32⟩
  | 115 => ⟨S128x128, .f32⟩
  | 116 => ⟨S128x128, .f32⟩
  | 117 => ⟨S128x128, .f32⟩
  | 118 => ⟨S24x128x1, .f32⟩
  | 119 => ⟨S1x128x128, .f32⟩
  | 120 => ⟨S24x128x128, .f32⟩
  | 121 => ⟨S24x128x128, .f32⟩
  | 122 => ⟨S24x128x128, .f32⟩
  | 123 => ⟨S_, .f32⟩
  | 124 => ⟨S24x128, .f32⟩
  | 125 => ⟨S24x128x128, .f32⟩
  | 126 => ⟨S3072x128, .f32⟩
  | 127 => ⟨S1x128, .f32⟩
  | _ => ⟨S2x512x3x3, .f32⟩

abbrev hbmTy0_1 (i : Nat) : BufTy := match i % 128 with
  | 0 => ⟨S1x128, .f32⟩
  | 1 => ⟨S1x128, .f32⟩
  | 2 => ⟨S1x128, .f32⟩
  | 3 => ⟨S2x512x128, .f32⟩
  | 4 => ⟨S2x512x30, .i32⟩
  | 5 => ⟨S2x512x30, .i32⟩
  | 6 => ⟨S1x16, .f32⟩
  | 7 => ⟨S1x1x1x16, .f32⟩
  | 8 => ⟨S1x1x16x16, .f32⟩
  | 9 => ⟨S1x256, .f32⟩
  | 10 => ⟨S_, .f32⟩
  | 11 => ⟨S128x128, .f32⟩
  | 12 => ⟨S_, .i32⟩
  | 13 => ⟨S1, .i32⟩
  | 14 => ⟨S128x128, .f32⟩
  | 15 => ⟨S2x15360x1, .i32⟩
  | 16 => ⟨S2x512x1, .i32⟩
  | 17 => ⟨S2x512x128, .bf16⟩
  | 18 => ⟨S2x512x128, .f32⟩
  | 19 => ⟨S2x512x128, .f32⟩
  | 20 => ⟨S2x512x128, .bf16⟩
  | 21 => ⟨S1x256, .f32⟩
  | 22 => ⟨S1x256, .f32⟩
  | 23 => ⟨S1x128, .f32⟩
  | 24 => ⟨S1x128, .f32⟩
  | 25 => ⟨S2x15360x128, .f32⟩
  | 26 => ⟨S2x15360x1, .i32⟩
  | 27 => ⟨S2x512x128, .f32⟩
  | 28 => ⟨S2x512x30x128, .f32⟩
  | 29 => ⟨S2x512x30, .i32⟩
  | 30 => ⟨S_, .i32⟩
  | 31 => ⟨S2x512x30, .i32⟩
  | 32 => ⟨S2x512x30, .i1⟩
  | 33 => ⟨S_, .i32⟩
  | 34 => ⟨S2x512x30, .i32⟩
  | 35 => ⟨S2x512x30, .i1⟩
  | _ => ⟨S2x512x3x3, .f32⟩

abbrev hbmTy (i : Nat) : BufTy := match i / 128 with
  | 0 => hbmTy0_0 i
  | 1 => hbmTy0_1 i
  | _ => ⟨S2x512x3x3, .f32⟩

abbrev bufTy : (tb : Table) → Fin (tcTables nBuf tb) → BufTy
  | .hbm, ⟨i, _⟩ => hbmTy i
  | .local _ .vmem, ⟨0, _⟩ => ⟨S1x32x128, .f32⟩
  | .local _ .vmem, ⟨1, _⟩ => ⟨S1x32x128, .f32⟩
  | .local _ .vmem, ⟨2, _⟩ => ⟨S1x8x512, .f32⟩
  | .local _ .vmem, ⟨3, _⟩ => ⟨S1x8x512, .f32⟩
  | .local _ .vmem, ⟨4, _⟩ => ⟨S3072x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S1x32x128, .f32⟩
  | .local _ .vmem, ⟨11, _⟩ => ⟨S1x32x128, .f32⟩
  | .local _ .vmem, ⟨12, _⟩ => ⟨S1x32x30, .i32⟩
  | .local _ .vmem, ⟨13, _⟩ => ⟨S1x32x30, .i32⟩
  | .local _ .vmem, ⟨14, _⟩ => ⟨S1x32x30, .i32⟩
  | .local _ .vmem, ⟨15, _⟩ => ⟨S1x32x30, .i32⟩
  | .local _ .vmem, ⟨16, _⟩ => ⟨S1x960x1, .i32⟩
  | .local _ .vmem, ⟨17, _⟩ => ⟨S1x960x1, .i32⟩
  | .local _ .vmem, ⟨18, _⟩ => ⟨S1x32x128, .f32⟩
  | .local _ .vmem, ⟨19, _⟩ => ⟨S1x32x128, .f32⟩
  | .local _ .vmem, ⟨20, _⟩ => ⟨S960x32, .f32⟩
  | .local _ .vmem, ⟨21, _⟩ => ⟨S1x32x1, .i32⟩
  | .local _ .vmem, ⟨22, _⟩ => ⟨S1x32x1, .i32⟩
  | .local _ .vmem, ⟨23, _⟩ => ⟨S1x512x128, .bf16⟩
  | .local _ .vmem, ⟨24, _⟩ => ⟨S1x512x128, .bf16⟩
  | .local _ .vmem, ⟨25, _⟩ => ⟨S1x512x128, .bf16⟩
  | .local _ .vmem, ⟨26, _⟩ => ⟨S1x512x128, .bf16⟩
  | .local _ .vmem, ⟨27, _⟩ => ⟨S128x48, .f32⟩
  | .local _ .vmem, ⟨28, _⟩ => ⟨S128x48, .f32⟩
  | .local _ .vmem, ⟨29, _⟩ => ⟨S48x16, .f32⟩
  | .local _ .vmem, ⟨30, _⟩ => ⟨S16x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S256x128, .f32⟩
  | .local _ .vmem, ⟨35, _⟩ => ⟨S1x128, .f32⟩
  | .local _ .vmem, ⟨36, _⟩ => ⟨S128x128, .f32⟩
  | .local _ .vmem, ⟨37, _⟩ => ⟨S1x128, .f32⟩
  | .local _ .vmem, ⟨38, _⟩ => ⟨S1x960x128, .f32⟩
  | .local _ .vmem, ⟨39, _⟩ => ⟨S1x960x128, .f32⟩
  | .local _ .vmem, ⟨40, _⟩ => ⟨S1x960x1, .i32⟩
  | .local _ .vmem, ⟨41, _⟩ => ⟨S1x960x1, .i32⟩
  | .local _ .vmem, ⟨42, _⟩ => ⟨S1x32x128, .f32⟩
  | .local _ .vmem, ⟨43, _⟩ => ⟨S1x32x128, .f32⟩
  | _, _ => ⟨S2x512x3x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_cst_0 : Ref sig .tc := ⟨.hbm, 19, rfl⟩
abbrev main_cst_1 : Ref sig .tc := ⟨.hbm, 20, rfl⟩
abbrev main_cst_2 : Ref sig .tc := ⟨.hbm, 21, rfl⟩
abbrev main_cst_3 : Ref sig .tc := ⟨.hbm, 22, rfl⟩
abbrev main_cst_4 : Ref sig .tc := ⟨.hbm, 23, rfl⟩
abbrev main_cst_5 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_v15 : Ref sig .tc := ⟨.hbm, 48, rfl⟩
abbrev main_call0_v16 : Ref sig .tc := ⟨.hbm, 49, rfl⟩
abbrev main_call0_v17 : Ref sig .tc := ⟨.hbm, 50, rfl⟩
abbrev main_call0_v18 : Ref sig .tc := ⟨.hbm, 51, rfl⟩
abbrev main_call0_v19 : Ref sig .tc := ⟨.hbm, 52, rfl⟩
abbrev main_call0_v20 : Ref sig .tc := ⟨.hbm, 53, rfl⟩
abbrev main_call0_v21 : Ref sig .tc := ⟨.hbm, 54, rfl⟩
abbrev main_call0_v22 : Ref sig .tc := ⟨.hbm, 55, rfl⟩
abbrev main_call0_v23 : Ref sig .tc := ⟨.hbm, 56, rfl⟩
abbrev main_call0_v24 : Ref sig .tc := ⟨.hbm, 57, rfl⟩
abbrev main_v8 : Ref sig .tc := ⟨.hbm, 58, rfl⟩
abbrev main_cst_6 : Ref sig .tc := ⟨.hbm, 59, rfl⟩
abbrev main_v9 : Ref sig .tc := ⟨.hbm, 60, rfl⟩
abbrev main_v10 : Ref sig .tc := ⟨.hbm, 61, rfl⟩
abbrev main_cst_7 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_cst_8 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_call1_v0 : Ref sig .tc := ⟨.hbm, 72, rfl⟩
abbrev main_call1_cst : Ref sig .tc := ⟨.hbm, 73, rfl⟩
abbrev main_call1_v1 : Ref sig .tc := ⟨.hbm, 74, rfl⟩
abbrev main_call1_v2 : Ref sig .tc := ⟨.hbm, 75, rfl⟩
abbrev main_v19 : Ref sig .tc := ⟨.hbm, 76, rfl⟩
abbrev main_cst_9 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_cst_10 : Ref sig .tc := ⟨.hbm, 82, rfl⟩
abbrev main_v24 : Ref sig .tc := ⟨.hbm, 83, rfl⟩
abbrev main_c : Ref sig .tc := ⟨.hbm, 84, rfl⟩
abbrev main_v25 : Ref sig .tc := ⟨.hbm, 85, rfl⟩
abbrev main_v26 : Ref sig .tc := ⟨.hbm, 86, rfl⟩
abbrev main_c_11 : Ref sig .tc := ⟨.hbm, 87, rfl⟩
abbrev main_v27 : Ref sig .tc := ⟨.hbm, 88, rfl⟩
abbrev main_v28 : Ref sig .tc := ⟨.hbm, 89, rfl⟩
abbrev main_c_12 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_c_13 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_c_14 : Ref sig .tc := ⟨.hbm, 98, rfl⟩
abbrev main_v35 : Ref sig .tc := ⟨.hbm, 99, rfl⟩
abbrev main_v36 : Ref sig .tc := ⟨.hbm, 100, rfl⟩
abbrev main_c_15 : Ref sig .tc := ⟨.hbm, 101, rfl⟩
abbrev main_v37 : Ref sig .tc := ⟨.hbm, 102, rfl⟩
abbrev main_v38 : Ref sig .tc := ⟨.hbm, 103, rfl⟩
abbrev main_cst_16 : Ref sig .tc := ⟨.hbm, 104, rfl⟩
abbrev main_v39 : Ref sig .tc := ⟨.hbm, 105, rfl⟩
abbrev main_v40 : Ref sig .tc := ⟨.hbm, 106, rfl⟩
abbrev main_c_17 : Ref sig .tc := ⟨.hbm, 107, rfl⟩
abbrev main_v41 : Ref sig .tc := ⟨.hbm, 108, rfl⟩
abbrev main_v42 : Ref sig .tc := ⟨.hbm, 109, rfl⟩
abbrev main_cst_18 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_cst_19 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62_0 : Ref sig .tc := ⟨.hbm, 131, rfl⟩
abbrev main_v62_1 : Ref sig .tc := ⟨.hbm, 132, rfl⟩
abbrev main_v62_2 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_cst_20 : Ref sig .tc := ⟨.hbm, 138, rfl⟩
abbrev main_v67 : Ref sig .tc := ⟨.hbm, 139, rfl⟩
abbrev main_c_21 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80_0 : Ref sig .tc := ⟨.hbm, 153, rfl⟩
abbrev main_v80_1 : Ref sig .tc := ⟨.hbm, 154, rfl⟩
abbrev main_v80_2 : Ref sig .tc := ⟨.hbm, 155, rfl⟩
abbrev main_v81 : Ref sig .tc := ⟨.hbm, 156, rfl⟩
abbrev main_v82 : Ref sig .tc := ⟨.hbm, 157, rfl⟩
abbrev main_c_22 : Ref sig .tc := ⟨.hbm, 158, rfl⟩
abbrev main_v83 : Ref sig .tc := ⟨.hbm, 159, rfl⟩
abbrev main_v84 : Ref sig .tc := ⟨.hbm, 160, rfl⟩
abbrev main_c_23 : Ref sig .tc := ⟨.hbm, 161, rfl⟩
abbrev main_v85 : Ref sig .tc := ⟨.hbm, 162, rfl⟩
abbrev main_v86 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg10_0 : Ref sig .tc := ⟨.vmem, 31, rfl⟩
abbrev cc1_stg11_0 : Ref sig .tc := ⟨.vmem, 32, rfl⟩
abbrev cc1_stg12_0 : Ref sig .tc := ⟨.vmem, 33, rfl⟩
abbrev cc1_stg13_0 : Ref sig .tc := ⟨.vmem, 34, rfl⟩
abbrev cc1_stg14_0 : Ref sig .tc := ⟨.vmem, 35, rfl⟩
abbrev cc1_stg15_0 : Ref sig .tc := ⟨.vmem, 36, rfl⟩
abbrev cc1_stg16_0 : Ref sig .tc := ⟨.vmem, 37, rfl⟩
abbrev cc1_stg17_0 : Ref sig .tc := ⟨.vmem, 38, rfl⟩
abbrev cc1_stg17_1 : Ref sig .tc := ⟨.vmem, 39, rfl⟩
abbrev cc1_stg18_0 : Ref sig .tc := ⟨.vmem, 40, rfl⟩
abbrev cc1_stg18_1 : Ref sig .tc := ⟨.vmem, 41, rfl⟩
abbrev cc1_stg19_0 : Ref sig .tc := ⟨.vmem, 42, rfl⟩
abbrev cc1_stg19_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem5_1 : DmaSem sig := 26
abbrev cc1_sem6_0 : DmaSem sig := 27
abbrev cc1_sem7_0 : DmaSem sig := 28
abbrev cc1_sem8_0 : DmaSem sig := 29
abbrev cc1_sem9_0 : DmaSem sig := 30
abbrev cc1_sem10_0 : DmaSem sig := 31
abbrev cc1_sem11_0 : DmaSem sig := 32
abbrev cc1_sem12_0 : DmaSem sig := 33
abbrev cc1_sem13_0 : DmaSem sig := 34
abbrev cc1_sem14_0 : DmaSem sig := 35
abbrev cc1_sem15_0 : DmaSem sig := 36
abbrev cc1_sem16_0 : DmaSem sig := 37
abbrev cc1_sem17_0 : DmaSem sig := 38
abbrev cc1_sem17_1 : DmaSem sig := 39
abbrev cc1_sem18_0 : DmaSem sig := 40
abbrev cc1_sem18_1 : DmaSem sig := 41
abbrev cc1_sem19_0 : DmaSem sig := 42
abbrev cc1_sem19_1 : DmaSem sig := 43

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S3072x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x32x30 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x32x30 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_18 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_19 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x960x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x32x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S960x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x32x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x512x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 1 → Memref sig .tc .vmem S128x48 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S128x48 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S48x16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S16x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S1x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S1x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S256x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]

abbrev stage1_14 : Fin 1 → Memref sig .tc .vmem S1x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false, false]

abbrev stage1_15 : Fin 1 → Memref sig .tc .vmem S128x128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false, false]

abbrev stage1_16 : Fin 1 → Memref sig .tc .vmem S1x128 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false, false]

abbrev stage1_17 : Fin 2 → Memref sig .tc .vmem S1x960x128 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true, true]

abbrev stage1_18 : Fin 2 → Memref sig .tc .vmem S1x960x1 .i32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true, true]

abbrev stage1_19 : Fin 2 → Memref sig .tc .vmem S1x32x128 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true, true]
-- ==== ReferenceIdeal.lean ====
abbrev S2x512x3x3 : Shape := ⟨4, ![2, 512, 3, 3]⟩
abbrev S2x512 : Shape := ⟨2, ![2, 512]⟩
abbrev S128 : Shape := ⟨1, ![128]⟩
abbrev S128x128 : Shape := ⟨2, ![128, 128]⟩
abbrev S256 : Shape := ⟨1, ![256]⟩
abbrev S256x128 : Shape := ⟨2, ![256, 128]⟩
abbrev S21x128 : Shape := ⟨2, ![21, 128]⟩
abbrev S16 : Shape := ⟨1, ![16]⟩
abbrev S2x512x1x3 : Shape := ⟨4, ![2, 512, 1, 3]⟩
abbrev S2x512x3 : Shape := ⟨3, ![2, 512, 3]⟩
abbrev S2x512x1 : Shape := ⟨3, ![2, 512, 1]⟩
abbrev S_ : Shape := ⟨0, ![]⟩
abbrev S2x1x512x3 : Shape := ⟨4, ![2, 1, 512, 3]⟩
abbrev S2x512x512x3 : Shape := ⟨4, ![2, 512, 512, 3]⟩
abbrev S2x512x512 : Shape := ⟨3, ![2, 512, 512]⟩
abbrev S2x512x4x3 : Shape := ⟨4, ![2, 512, 4, 3]⟩
abbrev S2x512x30 : Shape := ⟨3, ![2, 512, 30]⟩
abbrev S512 : Shape := ⟨1, ![512]⟩
abbrev S1x512x1 : Shape := ⟨3, ![1, 512, 1]⟩
abbrev S2x512x30x1 : Shape := ⟨4, ![2, 512, 30, 1]⟩
abbrev S1 : Shape := ⟨1, ![1]⟩
abbrev S1x1x1x1 : Shape := ⟨4, ![1, 1, 1, 1]⟩
abbrev S2 : Shape := ⟨1, ![2]⟩
abbrev S2x1x1 : Shape := ⟨3, ![2, 1, 1]⟩
abbrev S2x512x30x2 : Shape := ⟨4, ![2, 512, 30, 2]⟩
abbrev S2x512x30x4x3 : Shape := ⟨5, ![2, 512, 30, 4, 3]⟩
abbrev S2x512x1x4x1x3 : Shape := ⟨6, ![2, 512, 1, 4, 1, 3]⟩
abbrev S2x512x30x1x4x3 : Shape := ⟨6, ![2, 512, 30, 1, 4, 3]⟩
abbrev S2x512x30x4x4x3 : Shape := ⟨6, ![2, 512, 30, 4, 4, 3]⟩
abbrev S2x512x30x4x4 : Shape := ⟨5, ![2, 512, 30, 4, 4]⟩
abbrev S2x512x30x4x4x1 : Shape := ⟨6, ![2, 512, 30, 4, 4, 1]⟩
abbrev S1x1x1x1x1x16 : Shape := ⟨6, ![1, 1, 1, 1, 1, 16]⟩
abbrev S2x512x30x4x4x16 : Shape := ⟨6, ![2, 512, 30, 4, 4, 16]⟩
abbrev S2x512x30x256 : Shape := ⟨4, ![2, 512, 30, 256]⟩
abbrev S1x1x1x256 : Shape := ⟨4, ![1, 1, 1, 256]⟩
abbrev S2x512x30x128 : Shape := ⟨4, ![2, 512, 30, 128]⟩
abbrev S1x1x1x128 : Shape := ⟨4, ![1, 1, 1, 128]⟩
abbrev S1x1x21 : Shape := ⟨3, ![1, 1, 21]⟩
abbrev S2x512x21 : Shape := ⟨3, ![2, 512, 21]⟩
abbrev S2x512x128 : Shape := ⟨3, ![2, 512, 128]⟩
abbrev S1x1x128 : Shape := ⟨3, ![1, 1, 128]⟩

abbrev nBuf : Space → Nat
  | .hbm => 280
  | .vmem => 0
  | .smem => 0
  | _ => 0

abbrev hbmTy0_0 (i : Nat) : BufTy := match i % 128 with
  | 0 => ⟨S2x512x3x3, .f32⟩
  | 1 => ⟨S2x512, .i32⟩
  | 2 => ⟨S2x512, .i32⟩
  | 3 => ⟨S2x512, .i1⟩
  | 4 => ⟨S2x512, .i32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S256, .f32⟩
  | 12 => ⟨S256, .f32⟩
  | 13 => ⟨S256x128, .f32⟩
  | 14 => ⟨S128, .f32⟩
  | 15 => ⟨S21x128, .f32⟩
  | 16 => ⟨S128, .f32⟩
  | 17 => ⟨S16, .f32⟩
  | 18 => ⟨S2x512x1x3, .f32⟩
  | 19 => ⟨S2x512x3, .f32⟩
  | 20 => ⟨S2x512x1x3, .f32⟩
  | 21 => ⟨S2x512x3, .f32⟩
  | 22 => ⟨S2x512x1x3, .f32⟩
  | 23 => ⟨S2x512x3, .f32⟩
  | 24 => ⟨S2x512x3, .f32⟩
  | 25 => ⟨S2x512x3, .f32⟩
  | 26 => ⟨S2x512x1, .f32⟩
  | 27 => ⟨S2x512, .f32⟩
  | 28 => ⟨S2x512x1, .f32⟩
  | 29 => ⟨S2x512, .f32⟩
  | 30 => ⟨S2x512, .f32⟩
  | 31 => ⟨S2x512x1, .f32⟩
  | 32 => ⟨S2x512, .f32⟩
  | 33 => ⟨S2x512x1, .f32⟩
  | 34 => ⟨S2x512, .f32⟩
  | 35 => ⟨S2x512, .f32⟩
  | 36 => ⟨S2x512, .f32⟩
  | 37 => ⟨S2x512x1, .f32⟩
  | 38 => ⟨S2x512, .f32⟩
  | 39 => ⟨S2x512x1, .f32⟩
  | 40 => ⟨S2x512, .f32⟩
  | 41 => ⟨S2x512, .f32⟩
  | 42 => ⟨S2x512x1, .f32⟩
  | 43 => ⟨S2x512, .f32⟩
  | 44 => ⟨S2x512x1, .f32⟩
  | 45 => ⟨S2x512, .f32⟩
  | 46 => ⟨S2x512, .f32⟩
  | 47 => ⟨S2x512, .f32⟩
  | 48 => ⟨S2x512x1, .f32⟩
  | 49 => ⟨S2x512, .f32⟩
  | 50 => ⟨S2x512x1, .f32⟩
  | 51 => ⟨S2x512, .f32⟩
  | 52 => ⟨S2x512, .f32⟩
  | 53 => ⟨S2x512x1, .f32⟩
  | 54 => ⟨S2x512, .f32⟩
  | 55 => ⟨S2x512x1, .f32⟩
  | 56 => ⟨S2x512, .f32⟩
  | 57 => ⟨S2x512, .f32⟩
  | 58 => ⟨S2x512, .f32⟩
  | 59 => ⟨S2x512x1, .f32⟩
  | 60 => ⟨S2x512x1, .f32⟩
  | 61 => ⟨S2x512x1, .f32⟩
  | 62 => ⟨S2x512x3, .f32⟩
  | 63 => ⟨S_, .f32⟩
  | 64 => ⟨S2x512x3, .f32⟩
  | 65 => ⟨S2x512x3, .f32⟩
  | 66 => ⟨S_, .f32⟩
  | 67 => ⟨S2x512x3, .f32⟩
  | 68 => ⟨S2x512x3, .f32⟩
  | 69 => ⟨S2x512x3, .f32⟩
  | 70 => ⟨S_, .f32⟩
  | 71 => ⟨S2x512x3, .f32⟩
  | 72 => ⟨S2x512x3, .f32⟩
  | 73 => ⟨S2x512x3, .f32⟩
  | 74 => ⟨S2x512x3, .f32⟩
  | 75 => ⟨S2x512x1x3, .f32⟩
  | 76 => ⟨S2x1x512x3, .f32⟩
  | 77 => ⟨S2x512x512x3, .f32⟩
  | 78 => ⟨S2x512x512x3, .f32⟩
  | 79 => ⟨S2x512x512x3, .f32⟩
  | 80 => ⟨S2x512x512x3, .f32⟩
  | 81 => ⟨S_, .f32⟩
  | 82 => ⟨S2x512x512, .f32⟩
  | 83 => ⟨S2x512x3, .f32⟩
  | 84 => ⟨S2x512x1x3, .f32⟩
  | 85 => ⟨S2x512x4x3, .f32⟩
  | 86 => ⟨S2x512x512, .f32⟩
  | 87 => ⟨S2x512x1, .i1⟩
  | 88 => ⟨S2x512x1, .f32⟩
  | 89 => ⟨S2x512x512, .f32⟩
  | 90 => ⟨S2x512x512, .i1⟩
  | 91 => ⟨S_, .f32⟩
  | 92 => ⟨S_, .f32⟩
  | 93 => ⟨S2x512x512, .f32⟩
  | 94 => ⟨S2x512x512, .f32⟩
  | 95 => ⟨S2x512x512, .f32⟩
  | 96 => ⟨S2x512x30, .f32⟩
  | 97 => ⟨S2x512x30, .i32⟩
  | 98 => ⟨S2x512x30, .f32⟩
  | 99 => ⟨S512, .i32⟩
  | 100 => ⟨S1x512x1, .i32⟩
  | 101 => ⟨S2x512x1, .i1⟩
  | 102 => ⟨S2x512x30, .i1⟩
  | 103 => ⟨S_, .i32⟩
  | 104 => ⟨S2x512x30, .i32⟩
  | 105 => ⟨S2x512x30, .i1⟩
  | 106 => ⟨S_, .i32⟩
  | 107 => ⟨S2x512x30, .i32⟩
  | 108 => ⟨S2x512x30, .i32⟩
  | 109 => ⟨S2x512x30, .i32⟩
  | 110 => ⟨S2x512x30x1, .i32⟩
  | 111 => ⟨S1, .i32⟩
  | 112 => ⟨S_, .i32⟩
  | 113 => ⟨S2x512x30x1, .i32⟩
  | 114 => ⟨S2x512x30x1, .i1⟩
  | 115 => ⟨S1x1x1x1, .i32⟩
  | 116 => ⟨S2x512x30x1, .i32⟩
  | 117 => ⟨S2x512x30x1, .i1⟩
  | 118 => ⟨S2x512x30x1, .i1⟩
  | 119 => ⟨S_, .i1⟩
  | 120 => ⟨S2x512x30, .i1⟩
  | 121 => ⟨S2x512x30, .i1⟩
  | 122 => ⟨S_, .i1⟩
  | 123 => ⟨S2x512x30, .i1⟩
  | 124 => ⟨S2x512x30, .i1⟩
  | 125 => ⟨S2x512x1, .i1⟩
  | 126 => ⟨S2x512x30, .i1⟩
  | 127 => ⟨S2x512x30, .i1⟩
  | _ => ⟨S2x512x3x3, .f32⟩

abbrev hbmTy0_1 (i : Nat) : BufTy := match i % 128 with
  | 0 => ⟨S2x512x30, .i1⟩
  | 1 => ⟨S_, .f32⟩
  | 2 => ⟨S2x512x30, .f32⟩
  | 3 => ⟨S2x512x30, .i1⟩
  | 4 => ⟨S2x512x30, .i1⟩
  | 5 => ⟨S_, .f32⟩
  | 6 => ⟨S2x512x30, .f32⟩
  | 7 => ⟨S2x512x30, .i1⟩
  | 8 => ⟨S2x512x30, .i1⟩
  | 9 => ⟨S2x512x30, .i32⟩
  | 10 => ⟨S2x512x30, .i32⟩
  | 11 => ⟨S2, .i32⟩
  | 12 => ⟨S2x1x1, .i32⟩
  | 13 => ⟨S_, .i32⟩
  | 14 => ⟨S2x1x1, .i32⟩
  | 15 => ⟨S2x1x1, .i1⟩
  | 16 => ⟨S_, .i32⟩
  | 17 => ⟨S2x1x1, .i32⟩
  | 18 => ⟨S2x1x1, .i32⟩
  | 19 => ⟨S2x1x1, .i32⟩
  | 20 => ⟨S_, .i32⟩
  | 21 => ⟨S2x512x30, .i32⟩
  | 22 => ⟨S2x512x30, .i1⟩
  | 23 => ⟨S_, .i32⟩
  | 24 => ⟨S2x512x30, .i32⟩
  | 25 => ⟨S2x512x30, .i32⟩
  | 26 => ⟨S2x512x30, .i32⟩
  | 27 => ⟨S2x512x30, .i32⟩
  | 28 => ⟨S2x512x30x1, .i32⟩
  | 29 => ⟨S2x512x30x1, .i32⟩
  | 30 => ⟨S2x512x30x2, .i32⟩
  | 31 => ⟨S2x512x30x4x3, .f32⟩
  | 32 => ⟨S2x512x1x4x1x3, .f32⟩
  | 33 => ⟨S2x512x30x1x4x3, .f32⟩
  | 34 => ⟨S2x512x30x4x4x3, .f32⟩
  | 35 => ⟨S2x512x30x4x4x3, .f32⟩
  | 36 => ⟨S2x512x30x4x4x3, .f32⟩
  | 37 => ⟨S2x512x30x4x4x3, .f32⟩
  | 38 => ⟨S_, .f32⟩
  | 39 => ⟨S2x512x30x4x4, .f32⟩
  | 40 => ⟨S_, .f32⟩
  | 41 => ⟨S2x512x30x4x4, .f32⟩
  | 42 => ⟨S2x512x30x4x4, .f32⟩
  | 43 => ⟨S2x512x30x4x4, .f32⟩
  | 44 => ⟨S2x512x30x4x4x1, .f32⟩
  | 45 => ⟨S1x1x1x1x1x16, .f32⟩
  | 46 => ⟨S2x512x30x4x4x16, .f32⟩
  | 47 => ⟨S2x512x30x4x4x16, .f32⟩
  | 48 => ⟨S2x512x30x4x4x16, .f32⟩
  | 49 => ⟨S2x512x30x4x4x16, .f32⟩
  | 50 => ⟨S2x512x30x4x4x16, .f32⟩
  | 51 => ⟨S_, .f32⟩
  | 52 => ⟨S2x512x30x4x4x16, .f32⟩
  | 53 => ⟨S2x512x30x4x4x16, .f32⟩
  | 54 => ⟨S2x512x30x4x4x16, .f32⟩
  | 55 => ⟨S2x512x30x256, .f32⟩
  | 56 => ⟨S_, .f32⟩
  | 57 => ⟨S2x512x30, .f32⟩
  | 58 => ⟨S2x512x30x1, .f32⟩
  | 59 => ⟨S_, .f32⟩
  | 60 => ⟨S2x512x30x1, .f32⟩
  | 61 => ⟨S2x512x30x1, .f32⟩
  | 62 => ⟨S_, .i32⟩
  | 63 => ⟨S_, .f32⟩
  | 64 => ⟨S2x512x30, .f32⟩
  | 65 => ⟨S2x512x30x1, .f32⟩
  | 66 => ⟨S_, .f32⟩
  | 67 => ⟨S2x512x30x1, .f32⟩
  | 68 => ⟨S2x512x30x1, .f32⟩
  | 69 => ⟨S2x512x30x256, .f32⟩
  | 70 => ⟨S2x512x30x256, .f32⟩
  | 71 => ⟨S2x512x30x256, .f32⟩
  | 72 => ⟨S_, .f32⟩
  | 73 => ⟨S_, .f32⟩
  | 74 => ⟨S_, .f32⟩
  | 75 => ⟨S_, .f32⟩
  | 76 => ⟨S2x512x30, .f32⟩
  | 77 => ⟨S2x512x30x1, .f32⟩
  | 78 => ⟨S2x512x30x1, .f32⟩
  | 79 => ⟨S2x512x30x1, .f32⟩
  | 80 => ⟨S_, .f32⟩
  | 81 => ⟨S_, .i1⟩
  | 82 => ⟨S_, .f32⟩
  | 83 => ⟨S_, .f32⟩
  | 84 => ⟨S2x512x30x1, .f32⟩
  | 85 => ⟨S2x512x30x1, .f32⟩
  | 86 => ⟨S2x512x30x256, .f32⟩
  | 87 => ⟨S2x512x30x256, .f32⟩
  | 88 => ⟨S_, .f32⟩
  | 89 => ⟨S2x512x30x1, .f32⟩
  | 90 => ⟨S2x512x30x1, .f32⟩
  | 91 => ⟨S2x512x30x1, .f32⟩
  | 92 => ⟨S2x512x30x256, .f32⟩
  | 93 => ⟨S2x512x30x256, .f32⟩
  | 94 => ⟨S1x1x1x256, .f32⟩
  | 95 => ⟨S2x512x30x256, .f32⟩
  | 96 => ⟨S2x512x30x256, .f32⟩
  | 97 => ⟨S1x1x1x256, .f32⟩
  | 98 => ⟨S2x512x30x256, .f32⟩
  | 99 => ⟨S2x512x30x256, .f32⟩
  | 100 => ⟨S2x512x30x128, .f32⟩
  | 101 => ⟨S1x1x1x128, .f32⟩
  | 102 => ⟨S2x512x30x128, .f32⟩
  | 103 => ⟨S2x512x30x128, .f32⟩
  | 104 => ⟨S_, .i32⟩
  | 105 => ⟨S2x512, .i32⟩
  | 106 => ⟨S2x512, .i1⟩
  | 107 => ⟨S_, .i32⟩
  | 108 => ⟨S_, .i32⟩
  | 109 => ⟨S2x512, .i32⟩
  | 110 => ⟨S2x512, .i32⟩
  | 111 => ⟨S2x512x1, .i32⟩
  | 112 => ⟨S1x1x21, .i32⟩
  | 113 => ⟨S2x512x21, .i32⟩
  | 114 => ⟨S2x512x21, .i32⟩
  | 115 => ⟨S2x512x21, .i1⟩
  | 116 => ⟨S2x512x21, .f32⟩
  | 117 => ⟨S2x512, .i1⟩
  | 118 => ⟨S2x512x1, .i1⟩
  | 119 => ⟨S2x512x1, .f32⟩
  | 120 => ⟨S2x512x128, .f32⟩
  | 121 => ⟨S1x1x128, .f32⟩
  | 122 => ⟨S2x512x128, .f32⟩
  | 123 => ⟨S2x512x128, .f32⟩
  | 124 => ⟨S2x512x128, .f32⟩
  | 125 => ⟨S2x512x128, .f32⟩
  | 126 => ⟨S2x512x1, .i32⟩
  | 127 => ⟨S2x512x30, .i32⟩
  | _ => ⟨S2x512x3x3, .f32⟩

abbrev hbmTy0_2 (i : Nat) : BufTy := match i % 128 with
  | 0 => ⟨S_, .i32⟩
  | 1 => ⟨S2x512x30, .i32⟩
  | 2 => ⟨S2x512x30, .i1⟩
  | 3 => ⟨S_, .i32⟩
  | 4 => ⟨S2x512x30, .i32⟩
  | 5 => ⟨S2x512x30, .i32⟩
  | 6 => ⟨S2x512x30, .i32⟩
  | 7 => ⟨S2x512x30x1, .i32⟩
  | 8 => ⟨S1, .i32⟩
  | 9 => ⟨S_, .i32⟩
  | 10 => ⟨S2x512x30x1, .i32⟩
  | 11 => ⟨S2x512x30x1, .i1⟩
  | 12 => ⟨S1x1x1x1, .i32⟩
  | 13 => ⟨S2x512x30x1, .i32⟩
  | 14 => ⟨S2x512x30x1, .i1⟩
  | 15 => ⟨S2x512x30x1, .i1⟩
  | 16 => ⟨S_, .i1⟩
  | 17 => ⟨S2x512x30, .i1⟩
  | 18 => ⟨S2x512x30, .i32⟩
  | 19 => ⟨S_, .i32⟩
  | 20 => ⟨S2x512x30, .i32⟩
  | 21 => ⟨S2x512x30, .i32⟩
  | 22 => ⟨S2x512x30, .i32⟩
  | 23 => ⟨S2x512x30, .i1⟩
  | _ => ⟨S2x512x3x3, .f32⟩

abbrev hbmTy (i : Nat) : BufTy := match i / 128 with
  | 0 => hbmTy0_0 i
  | 1 => hbmTy0_1 i
  | 2 => hbmTy0_2 i
  | _ => ⟨S2x512x3x3, .f32⟩

abbrev bufTy : (tb : Table) → Fin (tcTables nBuf tb) → BufTy
  | .hbm, ⟨i, _⟩ => hbmTy i
  | _, _ => ⟨S2x512x3x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst : Ref sig .tc := ⟨.hbm, 63, rfl⟩
abbrev main_v45 : Ref sig .tc := ⟨.hbm, 64, rfl⟩
abbrev main_v46 : Ref sig .tc := ⟨.hbm, 65, rfl⟩
abbrev main_cst_0 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_1 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_2 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_3 : Ref sig .tc := ⟨.hbm, 91, rfl⟩
abbrev main_call0_v0 : Ref sig .tc := ⟨.hbm, 92, rfl⟩
abbrev main_call0_v1 : Ref sig .tc := ⟨.hbm, 93, rfl⟩
abbrev main_v69 : Ref sig .tc := ⟨.hbm, 94, rfl⟩
abbrev main_v70 : Ref sig .tc := ⟨.hbm, 95, rfl⟩
abbrev main_values : Ref sig .tc := ⟨.hbm, 96, rfl⟩
abbrev main_indices : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_call1_c : Ref sig .tc := ⟨.hbm, 103, rfl⟩
abbrev main_call1_v0 : Ref sig .tc := ⟨.hbm, 104, rfl⟩
abbrev main_call1_v1 : Ref sig .tc := ⟨.hbm, 105, rfl⟩
abbrev main_call1_c_0 : Ref sig .tc := ⟨.hbm, 106, rfl⟩
abbrev main_call1_v2 : Ref sig .tc := ⟨.hbm, 107, rfl⟩
abbrev main_call1_v3 : Ref sig .tc := ⟨.hbm, 108, rfl⟩
abbrev main_call1_v4 : Ref sig .tc := ⟨.hbm, 109, rfl⟩
abbrev main_call1_v5 : Ref sig .tc := ⟨.hbm, 110, rfl⟩
abbrev main_call1_c_1 : Ref sig .tc := ⟨.hbm, 111, rfl⟩
abbrev main_call1_c_2 : Ref sig .tc := ⟨.hbm, 112, rfl⟩
abbrev main_call1_v6 : Ref sig .tc := ⟨.hbm, 113, rfl⟩
abbrev main_call1_v7 : Ref sig .tc := ⟨.hbm, 114, rfl⟩
abbrev main_call1_v8 : Ref sig .tc := ⟨.hbm, 115, rfl⟩
abbrev main_call1_v9 : Ref sig .tc := ⟨.hbm, 116, rfl⟩
abbrev main_call1_v10 : Ref sig .tc := ⟨.hbm, 117, rfl⟩
abbrev main_call1_v11 : Ref sig .tc := ⟨.hbm, 118, rfl⟩
abbrev main_call1_c_3 : Ref sig .tc := ⟨.hbm, 119, rfl⟩
abbrev main_call1_v12 : Ref sig .tc := ⟨.hbm, 120, rfl⟩
abbrev main_call1_v13 : Ref sig .tc := ⟨.hbm, 121, rfl⟩
abbrev main_call1_c_4 : Ref sig .tc := ⟨.hbm, 122, rfl⟩
abbrev main_call1_v14 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_cst_4 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_cst_5 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_call2_v0 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_c : Ref sig .tc := ⟨.hbm, 141, rfl⟩
abbrev main_v90 : Ref sig .tc := ⟨.hbm, 142, rfl⟩
abbrev main_v91 : Ref sig .tc := ⟨.hbm, 143, rfl⟩
abbrev main_c_6 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_c_7 : Ref sig .tc := ⟨.hbm, 148, rfl⟩
abbrev main_v95 : Ref sig .tc := ⟨.hbm, 149, rfl⟩
abbrev main_v96 : Ref sig .tc := ⟨.hbm, 150, rfl⟩
abbrev main_c_8 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_cst_9 : Ref sig .tc := ⟨.hbm, 166, rfl⟩
abbrev main_v111 : Ref sig .tc := ⟨.hbm, 167, rfl⟩
abbrev main_cst_10 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_cst_11 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_cst_12 : Ref sig .tc := ⟨.hbm, 184, rfl⟩
abbrev main_v126 : Ref sig .tc := ⟨.hbm, 185, rfl⟩
abbrev main_v127 : Ref sig .tc := ⟨.hbm, 186, rfl⟩
abbrev main_cst_13 : Ref sig .tc := ⟨.hbm, 187, rfl⟩
abbrev main_v128 : Ref sig .tc := ⟨.hbm, 188, rfl⟩
abbrev main_v129 : Ref sig .tc := ⟨.hbm, 189, rfl⟩
abbrev main_c_14 : Ref sig .tc := ⟨.hbm, 190, rfl⟩
abbrev main_call3_cst : Ref sig .tc := ⟨.hbm, 191, rfl⟩
abbrev main_call3_v0 : Ref sig .tc := ⟨.hbm, 192, rfl⟩
abbrev main_call3_v1 : Ref sig .tc := ⟨.hbm, 193, rfl⟩
abbrev main_call3_cst_0 : Ref sig .tc := ⟨.hbm, 194, rfl⟩
abbrev main_call3_v2 : Ref sig .tc := ⟨.hbm, 195, rfl⟩
abbrev main_call3_v3 : Ref sig .tc := ⟨.hbm, 196, rfl⟩
abbrev main_call3_v4 : Ref sig .tc := ⟨.hbm, 197, rfl⟩
abbrev main_call3_v5 : Ref sig .tc := ⟨.hbm, 198, rfl⟩
abbrev main_call3_v6 : Ref sig .tc := ⟨.hbm, 199, rfl⟩
abbrev main_call3_v7 : Ref sig .tc := ⟨.hbm, 200, rfl⟩
abbrev main_call3_cst_1 : Ref sig .tc := ⟨.hbm, 201, rfl⟩
abbrev main_call3_v8 : Ref sig .tc := ⟨.hbm, 202, rfl⟩
abbrev main_call3_cst_2 : Ref sig .tc := ⟨.hbm, 203, rfl⟩
abbrev main_call3_v9 : Ref sig .tc := ⟨.hbm, 204, rfl⟩
abbrev main_call3_v10 : Ref sig .tc := ⟨.hbm, 205, rfl⟩
abbrev main_call3_v11 : Ref sig .tc := ⟨.hbm, 206, rfl⟩
abbrev main_call3_v12 : Ref sig .tc := ⟨.hbm, 207, rfl⟩
abbrev main_call3_cst_3 : Ref sig .tc := ⟨.hbm, 208, rfl⟩
abbrev main_call3_v13 : Ref sig .tc := ⟨.hbm, 209, rfl⟩
abbrev main_call3_cst_4 : Ref sig .tc := ⟨.hbm, 210, rfl⟩
abbrev main_call3_call0_v0 : Ref sig .tc := ⟨.hbm, 211, rfl⟩
abbrev main_call3_call0_v1 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev main_cst_15 : Ref sig .tc := ⟨.hbm, 216, rfl⟩
abbrev main_v133 : Ref sig .tc := ⟨.hbm, 217, rfl⟩
abbrev main_v134 : Ref sig .tc := ⟨.hbm, 218, rfl⟩
abbrev main_v135 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_v139 : Ref sig .tc := ⟨.hbm, 223, rfl⟩
abbrev main_v140 : Ref sig .tc := ⟨.hbm, 224, rfl⟩
abbrev main_v141 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_c_16 : Ref sig .tc := ⟨.hbm, 232, rfl⟩
abbrev main_v148 : Ref sig .tc := ⟨.hbm, 233, rfl⟩
abbrev main_v149 : Ref sig .tc := ⟨.hbm, 234, rfl⟩
abbrev main_c_17 : Ref sig .tc := ⟨.hbm, 235, rfl⟩
abbrev main_call4_v0 : Ref sig .tc := ⟨.hbm, 236, rfl⟩
abbrev main_call4_v1 : Ref sig .tc := ⟨.hbm, 237, rfl⟩
abbrev main_v150 : Ref sig .tc := ⟨.hbm, 238, rfl⟩
abbrev main_call5_v0 : Ref sig .tc := ⟨.hbm, 239, rfl⟩
abbrev main_call5_v1 : Ref sig .tc := ⟨.hbm, 240, rfl⟩
abbrev main_call5_v2 : Ref sig .tc := ⟨.hbm, 241, rfl⟩
abbrev main_call5_v3 : Ref sig .tc := ⟨.hbm, 242, rfl⟩
abbrev main_call5_v4 : Ref sig .tc := ⟨.hbm, 243, rfl⟩
abbrev main_v151 : Ref sig .tc := ⟨.hbm, 244, rfl⟩
abbrev main_v152 : Ref sig .tc := ⟨.hbm, 245, rfl⟩
abbrev main_v153 : Ref sig .tc := ⟨.hbm, 246, rfl⟩
abbrev main_v154 : Ref sig .tc := ⟨.hbm, 247, rfl⟩
abbrev main_v155 : Ref sig .tc := ⟨.hbm, 248, rfl⟩
abbrev main_v156 : Ref sig .tc := ⟨.hbm, 249, rfl⟩
abbrev main_v157 : Ref sig .tc := ⟨.hbm, 250, rfl⟩
abbrev main_v158 : Ref sig .tc := ⟨.hbm, 251, rfl⟩
abbrev main_v159 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_call6_c : Ref sig .tc := ⟨.hbm, 256, rfl⟩
abbrev main_call6_v0 : Ref sig .tc := ⟨.hbm, 257, rfl⟩
abbrev main_call6_v1 : Ref sig .tc := ⟨.hbm, 258, rfl⟩
abbrev main_call6_c_0 : Ref sig .tc := ⟨.hbm, 259, rfl⟩
abbrev main_call6_v2 : Ref sig .tc := ⟨.hbm, 260, rfl⟩
abbrev main_call6_v3 : Ref sig .tc := ⟨.hbm, 261, rfl⟩
abbrev main_call6_v4 : Ref sig .tc := ⟨.hbm, 262, rfl⟩
abbrev main_call6_v5 : Ref sig .tc := ⟨.hbm, 263, rfl⟩
abbrev main_call6_c_1 : Ref sig .tc := ⟨.hbm, 264, rfl⟩
abbrev main_call6_c_2 : Ref sig .tc := ⟨.hbm, 265, rfl⟩
abbrev main_call6_v6 : Ref sig .tc := ⟨.hbm, 266, rfl⟩
abbrev main_call6_v7 : Ref sig .tc := ⟨.hbm, 267, rfl⟩
abbrev main_call6_v8 : Ref sig .tc := ⟨.hbm, 268, rfl⟩
abbrev main_call6_v9 : Ref sig .tc := ⟨.hbm, 269, rfl⟩
abbrev main_call6_v10 : Ref sig .tc := ⟨.hbm, 270, rfl⟩
abbrev main_call6_v11 : Ref sig .tc := ⟨.hbm, 271, rfl⟩
abbrev main_call6_c_3 : Ref sig .tc := ⟨.hbm, 272, rfl⟩
abbrev main_call6_v12 : Ref sig .tc := ⟨.hbm, 273, rfl⟩
abbrev main_call6_v13 : Ref sig .tc := ⟨.hbm, 274, rfl⟩
abbrev main_call6_c_4 : Ref sig .tc := ⟨.hbm, 275, rfl⟩
abbrev main_call6_v14 : Ref sig .tc := ⟨.hbm, 276, rfl⟩
abbrev main_v163 : Ref sig .tc := ⟨.hbm, 277, rfl⟩
abbrev main_v164 : Ref sig .tc := ⟨.hbm, 278, rfl⟩
abbrev main_v165 : Ref sig .tc := ⟨.hbm, 279, rfl⟩

abbrev nD : Nat := 1
abbrev τ : Topo := Topo.v7x

variable {F : FTy → Type} [FloatOps F]
-- ==== Proof.Feat.Second.lean ====
/-
  The blocks the second region reads, each at an index of its array.
-/
module

public import proofs.«01_k».proof.Proof.Gen.KernelIdeal.Skeleton
public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Feat

open Idealize.ShloMosaic Idealize.ShloMosaic.TcCoe Idealize.SL.Sem
open Cert.KernelIdeal Cert.KernelIdeal.Gen
open Idealize.ShloMosaic.Pipeline (Dat)

/-- The coordinates of the second region's blocks: batch `t / 16`, block `t % 16` of rows. -/
theorem idx1 : ∀ t : Fin cfg1.N,
    win1_0.index t = ![t.val / 16, t.val % 16, 0] ∧ win1_1.index t = ![t.val / 16, t.val % 16, 0] ∧ win1_2.index t = ![0, 0] ∧
    win1_3.index t = ![t.val / 16, t.val % 16, 0] ∧ win1_4.index t = ![t.val / 16, 0, 0] ∧ win1_5.index t = ![t.val / 16, 0, 0] ∧
    win1_6.index t = ![0, 0] ∧ win1_7.index t = ![0, 0] ∧ win1_8.index t = ![0, 0] ∧ win1_9.index t = ![0, 0] ∧ win1_10.index t = ![0, 0] ∧
    win1_11.index t = ![0, 0] ∧ win1_12.index t = ![0, 0] ∧ win1_13.index t = ![0, 0] ∧ win1_14.index t = ![0, 0] ∧ win1_15.index t = ![0, 0] ∧
    win1_16.index t = ![0, 0] ∧ win1_17.index t = ![t.val / 16, t.val % 16, 0] ∧ win1_18.index t = ![t.val / 16, t.val % 16, 0] ∧
    win1_19.index t = ![t.val / 16, t.val % 16, 0] :=
  (by decide +kernel : ∀ t : Fin grid1.N, _)

section Blocks

variable (V : (c : Dev nD) → (b : Ref sig .tc) → Buf (Elt Ideal) ((c : Thread nD τ).loc b)) (c : Dev nD) (t : Fin cfg1.N)

/-- A block of the neighbours, read at an index. -/
theorem at0 (r : Fin 960) (z : Fin 2) (R : Fin 15360) (hz : z.val = t.val / 16) (hR : R.val = t.val % 16 * 960 + r.val) :
    iblk1 V c 0 t (ix3 0 r 0) = V c main_v70 (ix3 z R 0) := by
  blk_point [iblk1, idx1 t]

/-- A block of the rows of the table, read at an index. -/
theorem at1 (r : Fin 32) (n : Fin 128) (z : Fin 2) (i : Fin 512) (hz : z.val = t.val / 16) (hi : i.val = t.val % 16 * 32 + r.val) :
    iblk1 V c 1 t (ix3 0 r n) = V c main_v38 (ix3 z i n) := by
  blk_point [iblk1, idx1 t]

/-- A block of the repeating matrix, read at an index. -/
theorem at2 (r : Fin 960) (x : Fin 32) : iblk1 V c 2 t (ix2 r x) = V c main_cst_1 (ix2 r x) := by
  blk_point [iblk1, idx1 t]

/-- A block of the letters, read at an index. -/
theorem at3 (r : Fin 32) (z : Fin 2) (i : Fin 512) (hz : z.val = t.val / 16) (hi : i.val = t.val % 16 * 32 + r.val) :
    iblk1 V c 3 t (ix3 0 r 0) = V c main_v71 (ix3 z i 0) := by
  blk_point [iblk1, idx1 t]

/-- A block of the high part of the table, read at an index. -/
theorem at4 (i : Fin 512) (n : Fin 128) (z : Fin 2) (hz : z.val = t.val / 16) : iblk1 V c 4 t (ix3 0 i n) = V c main_v72 (ix3 z i n) := by
  blk_point [iblk1, idx1 t]

/-- A block of the low part of the table, read at an index. -/
theorem at5 (i : Fin 512) (n : Fin 128) (z : Fin 2) (hz : z.val = t.val / 16) : iblk1 V c 5 t (ix3 0 i n) = V c main_v75 (ix3 z i n) := by
  blk_point [iblk1, idx1 t]

/-- A block of the first spreading matrix, read at an index. -/
theorem at6 (n : Fin 128) (k : Fin 48) : iblk1 V c 6 t (ix2 n k) = V c main_cst_2 (ix2 n k) := by
  blk_point [iblk1, idx1 t]

/-- A block of the second spreading matrix, read at an index. -/
theorem at7 (n : Fin 128) (k : Fin 48) : iblk1 V c 7 t (ix2 n k) = V c main_cst_3 (ix2 n k) := by
  blk_point [iblk1, idx1 t]

/-- A block of the summing matrix, read at an index. -/
theorem at8 (k : Fin 48) (p : Fin 16) : iblk1 V c 8 t (ix2 k p) = V c main_cst_4 (ix2 k p) := by
  blk_point [iblk1, idx1 t]

/-- A block of the widening matrix, read at an index. -/
theorem at9 (p : Fin 16) (q : Fin 256) : iblk1 V c 9 t (ix2 p q) = V c main_cst_5 (ix2 p q) := by
  blk_point [iblk1, idx1 t]

/-- A block of the centres, read at an index. -/
theorem at10 (q : Fin 256) : iblk1 V c 10 t (ix2 0 q) = V c main_v66 (ix2 0 q) := by
  blk_point [iblk1, idx1 t]

/-- A block of the scale, read at an index. -/
theorem at11 (q : Fin 256) : iblk1 V c 11 t (ix2 0 q) = V c main_v76 (ix2 0 q) := by
  blk_point [iblk1, idx1 t]

/-- A block of the shift, read at an index. -/
theorem at12 (q : Fin 256) : iblk1 V c 12 t (ix2 0 q) = V c main_v77 (ix2 0 q) := by
  blk_point [iblk1, idx1 t]

/-- A block of the projection, read at an index. -/
theorem at13 (q : Fin 256) (n : Fin 128) : iblk1 V c 13 t (ix2 q n) = V c main_arg13 (ix2 q n) := by
  blk_point [iblk1, idx1 t]

/-- A block of the bias, read at an index. -/
theorem at14 (n : Fin 128) : iblk1 V c 14 t (ix2 0 n) = V c main_v78 (ix2 0 n) := by
  blk_point [iblk1, idx1 t]

/-- A block of the weights of the letters, read at an index. -/
theorem at15 (x : Fin 128) (n : Fin 128) : iblk1 V c 15 t (ix2 x n) = V c main_v69 (ix2 x n) := by
  blk_point [iblk1, idx1 t]

/-- A block of the bias of the letters, read at an index. -/
theorem at16 (n : Fin 128) : iblk1 V c 16 t (ix2 0 n) = V c main_v79 (ix2 0 n) := by
  blk_point [iblk1, idx1 t]

end Blocks

end Cert.Feat

end
-- ==== Proof.Feat.Entry.lean ====
/-
  What the buffers hold when each of the kernel's two regions is entered, as terms of the arguments: the table of
  atoms, the plane of positions, the constant matrices and the reshaped operands.
-/
module

public import proofs.«01_k».proof.Proof.Gen.KernelIdeal.Skeleton
public import proofs.«01_k».proof.Proof.Gen.KernelIdeal.Frame
public import Idealize.ShloMosaic.Lib.Pointwise
public import Idealize.ShloMosaic.Lib.Claim

@[expose] public section

set_option maxRecDepth 16384

noncomputable section

namespace Cert.Feat

open Idealize.ShloMosaic Idealize.ShloMosaic.TcCoe Idealize.SL.Sem Idealize.ShloMosaic.StableHlo
open Cert.KernelIdeal Cert.KernelIdeal.Gen

/-! ## The atoms -/

/-- The nitrogen positions. -/
def nitrogen (x : FVec Ideal S2x512x3x3 .f32) : FVec Ideal S2x512x3 .f32 :=
  shapeCast S2x512x3 (extractStridedSlice S2x512x1x3 ![0, 0, 0, 0] x slices_S2x512x3x3_S2x512x1x3_0_0_0_0) shapeCasts_S2x512x1x3_S2x512x3
/-- The alpha-carbon positions. -/
def alpha (x : FVec Ideal S2x512x3x3 .f32) : FVec Ideal S2x512x3 .f32 :=
  shapeCast S2x512x3 (extractStridedSlice S2x512x1x3 ![0, 0, 1, 0] x slices_S2x512x3x3_S2x512x1x3_0_0_1_0) shapeCasts_S2x512x1x3_S2x512x3
/-- The carbonyl-carbon positions. -/
def carbonyl (x : FVec Ideal S2x512x3x3 .f32) : FVec Ideal S2x512x3 .f32 :=
  shapeCast S2x512x3 (extractStridedSlice S2x512x1x3 ![0, 0, 2, 0] x slices_S2x512x3x3_S2x512x1x3_0_0_2_0) shapeCasts_S2x512x1x3_S2x512x3

/-- The cross product of two tables of vectors, component by component. -/
def cross (b d : FVec Ideal S2x512x3 .f32) : FVec Ideal S2x512x3 .f32 :=
  let b0 := shapeCast S2x512 (extractStridedSlice S2x512x1 ![0, 0, 0] b slices_S2x512x3_S2x512x1_0_0_0) shapeCasts_S2x512x1_S2x512
  let b1 := shapeCast S2x512 (extractStridedSlice S2x512x1 ![0, 0, 1] b slices_S2x512x3_S2x512x1_0_0_1) shapeCasts_S2x512x1_S2x512
  let b2 := shapeCast S2x512 (extractStridedSlice S2x512x1 ![0, 0, 2] b slices_S2x512x3_S2x512x1_0_0_2) shapeCasts_S2x512x1_S2x512
  let d0 := shapeCast S2x512 (extractStridedSlice S2x512x1 ![0, 0, 0] d slices_S2x512x3_S2x512x1_0_0_0) shapeCasts_S2x512x1_S2x512
  let d1 := shapeCast S2x512 (extractStridedSlice S2x512x1 ![0, 0, 1] d slices_S2x512x3_S2x512x1_0_0_1) shapeCasts_S2x512x1_S2x512
  let d2 := shapeCast S2x512 (extractStridedSlice S2x512x1 ![0, 0, 2] d slices_S2x512x3_S2x512x1_0_0_2) shapeCasts_S2x512x1_S2x512
  transpose S2x512x3 [1, 2, 0] (concatenate S3x2x512 0
    [⟨S1x2x512, broadcastInDim S1x2x512 ![1, 2] bcast_S2x512_S1x2x512_1_2 (subf (mulf b1 d2) (mulf b2 d1))⟩,
     ⟨S1x2x512, broadcastInDim S1x2x512 ![1, 2] bcast_S2x512_S1x2x512_1_2 (subf (mulf b2 d0) (mulf b0 d2))⟩,
     ⟨S1x2x512, broadcastInDim S1x2x512 ![1, 2] bcast_S2x512_S1x2x512_1_2 (subf (mulf b0 d1) (mulf b1 d0))⟩]
    concatenates_S1x2x512_S1x2x512_S1x2x512_S3x2x512_d0) transposes_S3x2x512_S2x512x3_1_2_0

/-- The side-chain position built from the backbone, moved by the alpha carbon once more as the kernel does. -/
def beta (x : FVec Ideal S2x512x3x3 .f32) : FVec Ideal S2x512x3 .f32 :=
  addf (subf (addf
    (mulf (broadcastInDim S2x512x3 ![] bcast_S_S2x512x3 (constant S_ .f32 0xBF152E13#32)) (cross (subf (alpha x) (nitrogen x)) (subf (carbonyl x) (alpha x))))
    (mulf (broadcastInDim S2x512x3 ![] bcast_S_S2x512x3 (constant S_ .f32 0x3F116A4D#32)) (subf (alpha x) (nitrogen x))))
    (mulf (broadcastInDim S2x512x3 ![] bcast_S_S2x512x3 (constant S_ .f32 0x3F0A69A8#32)) (subf (carbonyl x) (alpha x))))
    (alpha x)

/-- The index at which a run of columns starts, as the kernel's scatters take it. -/
def start (k : BitVec 32) : IVec S1 32 := broadcastInDim S1 ![] bcast_S_S1 (constantI S_ 32 k)

/-- Overwrites three columns of the table, from column `k` on. -/
def putThree (t : FVec Ideal S2x512x128 .f32) (k : BitVec 32) (u : FVec Ideal S2x512x3 .f32) : FVec Ideal S2x512x128 .f32 :=
  Host.scatter scatter_S2x512x128_S1_S2x512x3_012_n_2_0 (fun _ b => b) t (start k) u

/-- The table of residues: twelve columns of atoms, the decoding order, and the direction `u`. -/
def table (x : FVec Ideal S2x512x3x3 .f32) (o : IVec S2x512 32) (u : FVec Ideal S2x512x3 .f32) : FVec Ideal S2x512x128 .f32 :=
  putThree (Host.scatter scatter_S2x512x128_S1_S2x512_01_2_2_0 (fun _ b => b)
    (putThree (putThree (putThree (putThree (broadcastInDim S2x512x128 ![] bcast_S_S2x512x128 (constant S_ .f32 0x00000000#32))
      0#32 (nitrogen x)) 3#32 (alpha x)) 6#32 (carbonyl x)) 9#32 (addf (alpha x) (beta x))) (start 12#32) (sitofp .f32 o)) 13#32 u

/-- The alpha carbons' coordinates as three rows. -/
def planes (x : FVec Ideal S2x512x3x3 .f32) : FVec Ideal S2x8x512 .f32 :=
  Host.scatter scatter_S2x8x512_S1_S2x3x512_012_n_1_0 (fun _ b => b)
    (broadcastInDim S2x8x512 ![] bcast_S_S2x8x512 (constant S_ .f32 0x00000000#32)) (start 0#32)
    (transpose S2x3x512 [0, 2, 1] (alpha x) transposes_S2x512x3_S2x3x512_0_2_1)

variable (m : (ℓ : Loc nD τ sig) → Buf (Elt Ideal) ℓ) (ρ : Dev nD → PrngReg) (c : Dev nD)

/-- The nitrogen atoms after the first operations. -/
theorem W1_nitrogen : W1 m ρ c (Proc.devRef .tc main_v1) = nitrogen (m ((c.tc : Thread nD τ).loc main_arg0)) := by
  show StableHlo.after hostOps0 (W0 m ρ c) (Proc.devRef .tc main_v1) = _
  unfold hostOps0
  simp only [TRef.binary, TRef.nullary, TRef.reshape, TRef.ternary, TRef.unary, TRef.nary, TRef.toBuf, TRef.ofBuf, cast_eq]
  after_results_simp
  rfl

/-- The alpha atoms after the first operations. -/
theorem W1_alpha : W1 m ρ c (Proc.devRef .tc main_v3) = alpha (m ((c.tc : Thread nD τ).loc main_arg0)) := by
  show StableHlo.after hostOps0 (W0 m ρ c) (Proc.devRef .tc main_v3) = _
  unfold hostOps0
  simp only [TRef.binary, TRef.nullary, TRef.reshape, TRef.ternary, TRef.unary, TRef.nary, TRef.toBuf, TRef.ofBuf, cast_eq]
  after_results_simp
  rfl

/-- The carbonyl atoms after the first operations. -/
theorem W1_carbonyl : W1 m ρ c (Proc.devRef .tc main_v5) = carbonyl (m ((c.tc : Thread nD τ).loc main_arg0)) := by
  show StableHlo.after hostOps0 (W0 m ρ c) (Proc.devRef .tc main_v5) = _
  unfold hostOps0
  simp only [TRef.binary, TRef.nullary, TRef.reshape, TRef.ternary, TRef.unary, TRef.nary, TRef.toBuf, TRef.ofBuf, cast_eq]
  after_results_simp
  rfl

/-- The first bond vector. -/
theorem W1_first : W1 m ρ c (Proc.devRef .tc main_v6) = subf (alpha (m ((c.tc : Thread nD τ).loc main_arg0))) (nitrogen (m ((c.tc : Thread nD τ).loc main_arg0))) := by
  show StableHlo.after hostOps0 (W0 m ρ c) (Proc.devRef .tc main_v6) = _
  unfold hostOps0
  simp only [TRef.binary, TRef.nullary, TRef.reshape, TRef.ternary, TRef.unary, TRef.nary, TRef.toBuf, TRef.ofBuf, cast_eq]
  after_results_simp
  rfl

/-- The second bond vector. -/
theorem W1_second : W1 m ρ c (Proc.devRef .tc main_v7) = subf (carbonyl (m ((c.tc : Thread nD τ).loc main_arg0))) (alpha (m ((c.tc : Thread nD τ).loc main_arg0))) := by
  show StableHlo.after hostOps0 (W0 m ρ c) (Proc.devRef .tc main_v7) = _
  unfold hostOps0
  simp only [TRef.binary, TRef.nullary, TRef.reshape, TRef.ternary, TRef.unary, TRef.nary, TRef.toBuf, TRef.ofBuf, cast_eq]
  after_results_simp
  rfl

/-- The cross product of the two bond vectors. -/
theorem W2_cross : W2 m ρ c (Proc.devRef .tc main_v8) = cross (subf (alpha (m ((c.tc : Thread nD τ).loc main_arg0))) (nitrogen (m ((c.tc : Thread nD τ).loc main_arg0)))) (subf (carbonyl (m ((c.tc : Thread nD τ).loc main_arg0))) (alpha (m ((c.tc : Thread nD τ).loc main_arg0)))) := by
  have h0 : W1 m ρ c (Proc.devRef .tc main_v6) = subf (alpha (m ((c.tc : Thread nD τ).loc main_arg0))) (nitrogen (m ((c.tc : Thread nD τ).loc main_arg0))) := W1_first m ρ c
  have h1 : W1 m ρ c (Proc.devRef .tc main_v7) = subf (carbonyl (m ((c.tc : Thread nD τ).loc main_arg0))) (alpha (m ((c.tc : Thread nD τ).loc main_arg0))) := W1_second m ρ c
  show StableHlo.after hostOps0_1 (W1 m ρ c) (Proc.devRef .tc main_v8) = _
  generalize W1 m ρ c = W at h0 h1 ⊢
  unfold hostOps0_1
  simp only [TRef.binary, TRef.nullary, TRef.reshape, TRef.ternary, TRef.unary, TRef.nary, TRef.toBuf, TRef.ofBuf, cast_eq]
  after_results_simp
  rw [← h0, ← h1]
  rfl

/-- The side-chain position. -/
theorem W3_beta : W3 m ρ c (Proc.devRef .tc main_v17) = beta (m ((c.tc : Thread nD τ).loc main_arg0)) := by
  have h0 : W2 m ρ c (Proc.devRef .tc main_v8) = cross (subf (alpha (m ((c.tc : Thread nD τ).loc main_arg0))) (nitrogen (m ((c.tc : Thread nD τ).loc main_arg0)))) (subf (carbonyl (m ((c.tc : Thread nD τ).loc main_arg0))) (alpha (m ((c.tc : Thread nD τ).loc main_arg0)))) := W2_cross m ρ c
  have h1 : W2 m ρ c (Proc.devRef .tc main_v6) = subf (alpha (m ((c.tc : Thread nD τ).loc main_arg0))) (nitrogen (m ((c.tc : Thread nD τ).loc main_arg0))) := (W2_of m ρ c main_v6 (by decide)).trans (W1_first m ρ c)
  have h2 : W2 m ρ c (Proc.devRef .tc main_v7) = subf (carbonyl (m ((c.tc : Thread nD τ).loc main_arg0))) (alpha (m ((c.tc : Thread nD τ).loc main_arg0))) := (W2_of m ρ c main_v7 (by decide)).trans (W1_second m ρ c)
  have h3 : W2 m ρ c (Proc.devRef .tc main_v3) = alpha (m ((c.tc : Thread nD τ).loc main_arg0)) := (W2_of m ρ c main_v3 (by decide)).trans (W1_alpha m ρ c)
  show StableHlo.after hostOps0_2 (W2 m ρ c) (Proc.devRef .tc main_v17) = _
  generalize W2 m ρ c = W at h0 h1 h2 h3 ⊢
  unfold hostOps0_2
  simp only [TRef.binary, TRef.nullary, TRef.reshape, TRef.ternary, TRef.unary, TRef.nary, TRef.toBuf, TRef.ofBuf, cast_eq]
  after_results_simp
  rw [h0, h1, h2, h3]
  rfl

/-- The three rows of coordinates at the entry of the first region. -/
theorem W5_planes : W5 m ρ c (Proc.devRef .tc main_v42) = planes (m ((c.tc : Thread nD τ).loc main_arg0)) := by
  have h0 : W4 m ρ c (Proc.devRef .tc main_v3) = alpha (m ((c.tc : Thread nD τ).loc main_arg0)) := (W4_of m ρ c main_v3 (by decide)).trans ((W3_of m ρ c main_v3 (by decide)).trans ((W2_of m ρ c main_v3 (by decide)).trans (W1_alpha m ρ c)))
  show StableHlo.after hostOps0_4 (W4 m ρ c) (Proc.devRef .tc main_v42) = _
  generalize W4 m ρ c = W at h0 ⊢
  unfold hostOps0_4
  simp only [TRef.binary, TRef.nullary, TRef.reshape, TRef.ternary, TRef.unary, TRef.nary, TRef.toBuf, TRef.ofBuf, cast_eq]
  after_results_simp
  rw [h0]
  rfl

/-- The table of residues at the entry of the first region, for some direction column. -/
theorem W5_table : ∃ u : FVec Ideal S2x512x3 .f32, W5 m ρ c (Proc.devRef .tc main_v38) = table (m ((c.tc : Thread nD τ).loc main_arg0)) (m ((c.tc : Thread nD τ).loc main_arg4)) u := by
  have h0 : W4 m ρ c (Proc.devRef .tc main_v1) = nitrogen (m ((c.tc : Thread nD τ).loc main_arg0)) := (W4_of m ρ c main_v1 (by decide)).trans ((W3_of m ρ c main_v1 (by decide)).trans ((W2_of m ρ c main_v1 (by decide)).trans (W1_nitrogen m ρ c)))
  have h1 : W4 m ρ c (Proc.devRef .tc main_v3) = alpha (m ((c.tc : Thread nD τ).loc main_arg0)) := (W4_of m ρ c main_v3 (by decide)).trans ((W3_of m ρ c main_v3 (by decide)).trans ((W2_of m ρ c main_v3 (by decide)).trans (W1_alpha m ρ c)))
  have h2 : W4 m ρ c (Proc.devRef .tc main_v5) = carbonyl (m ((c.tc : Thread nD τ).loc main_arg0)) := (W4_of m ρ c main_v5 (by decide)).trans ((W3_of m ρ c main_v5 (by decide)).trans ((W2_of m ρ c main_v5 (by decide)).trans (W1_carbonyl m ρ c)))
  have h3 : W4 m ρ c (Proc.devRef .tc main_v17) = beta (m ((c.tc : Thread nD τ).loc main_arg0)) := (W4_of m ρ c main_v17 (by decide)).trans (W3_beta m ρ c)
  have h4 : W4 m ρ c (Proc.devRef .tc main_arg4) = m ((c.tc : Thread nD τ).loc main_arg4) := W4_args m ρ c main_arg4 (by decide)
  show ∃ u : FVec Ideal S2x512x3 .f32, StableHlo.after hostOps0_4 (W4 m ρ c) (Proc.devRef .tc main_v38) = table (m ((c.tc : Thread nD τ).loc main_arg0)) (m ((c.tc : Thread nD τ).loc main_arg4)) u
  generalize W4 m ρ c = W at h0 h1 h2 h3 h4 ⊢
  unfold hostOps0_4
  simp only [TRef.binary, TRef.nullary, TRef.reshape, TRef.ternary, TRef.unary, TRef.nary, TRef.toBuf, TRef.ofBuf, cast_eq]
  after_results_simp
  rw [h0, h1, h2, h3, h4]
  refine ⟨Host.divf (W (Proc.devRef .tc main_v18)) (broadcastInDim S2x512x3 ![0, 1, 2] bcast_S2x512x1_S2x512x3_0_1_2
    (addf (W (Proc.devRef .tc main_v19)) (broadcastInDim S2x512x1 ![] bcast_S_S2x512x1 (constant S_ .f32 0x2B8CBCCC#32)))), ?_⟩
  unfold table putThree start
  with_reducible rfl

end Cert.Feat

end
-- ==== Proof.Feat.Columns.lean ====
/-
  The table of residues read at a column: three columns for each of four atoms, then the decoding order; and the
  three rows of coordinates read at an entry.
-/
module

public import proofs.«01_k».proof.Proof.Feat.Entry
public import Idealize.ShloMosaic.Lib.Routing.OpsSet

@[expose] public section

set_option maxRecDepth 16384

noncomputable section

namespace Cert.Feat

open Idealize.ShloMosaic Idealize.ShloMosaic.TcCoe Idealize.SL.Sem Idealize.ShloMosaic.StableHlo
open Cert.KernelIdeal Cert.KernelIdeal.Gen

/-! ## Where an update lands -/

/-- An update of three columns lands on its own residue, `k` columns further on. -/
theorem three_lands (k : BitVec 32) (z' : Fin 2) (i' : Fin 512) (c' : Fin 3) (z : Fin 2) (i : Fin 512) (n : Fin 128) :
    scatter_S2x512x128_S1_S2x512x3_012_n_2_0.resultIdx? (ix3 z' i' c' : S2x512x3.Idx) (start k) = some (ix3 z i n) ↔
      z' = z ∧ i' = i ∧ k.toInt + (c'.val : ℤ) = (n.val : ℤ) := by
  rw [Routing.resultIdx?_eq_some]
  constructor
  · intro h
    have h0 : (0 : ℤ) + (z'.val : ℤ) = (z.val : ℤ) := h 0
    have h1 : (0 : ℤ) + (i'.val : ℤ) = (i.val : ℤ) := h 1
    have h2 : k.toInt + (c'.val : ℤ) = (n.val : ℤ) := h 2
    exact ⟨Fin.ext (by omega), Fin.ext (by omega), h2⟩
  · rintro ⟨rfl, rfl, h2⟩ a
    match a with
    | ⟨0, _⟩ => exact (zero_add (z'.val : ℤ))
    | ⟨1, _⟩ => exact (zero_add (i'.val : ℤ))
    | ⟨2, _⟩ => exact h2

/-- Overwritten columns hold the update. -/
theorem putThree_hit (t : FVec Ideal S2x512x128 .f32) (k : BitVec 32) (u : FVec Ideal S2x512x3 .f32) (z : Fin 2) (i : Fin 512)
    (n : Fin 128) (c : Fin 3) (h : k.toInt + (c.val : ℤ) = (n.val : ℤ)) : putThree t k u (ix3 z i n) = u (ix3 z i c) := by
  refine Routing.scatter_set_hit _ t (start k) u (ix3 z i n) _ (fun j hj => ?_) (ix3 z i c) ((three_lands k z i c z i n).2 ⟨rfl, rfl, h⟩)
  idx_vars j
  obtain ⟨rfl, rfl, h'⟩ := (three_lands k _ _ _ z i n).1 hj
  rw [show j2 = c from Fin.ext (by omega)]

/-- Other columns stay. -/
theorem putThree_miss (t : FVec Ideal S2x512x128 .f32) (k : BitVec 32) (u : FVec Ideal S2x512x3 .f32) (z : Fin 2) (i : Fin 512)
    (n : Fin 128) (h : (n.val : ℤ) < k.toInt ∨ k.toInt + 3 ≤ (n.val : ℤ)) : putThree t k u (ix3 z i n) = t (ix3 z i n) := by
  refine Routing.scatter_set_miss _ t (start k) u (ix3 z i n) (fun j hj => ?_)
  idx_vars j
  obtain ⟨rfl, rfl, h'⟩ := (three_lands k _ _ _ z i n).1 hj
  have := j2.isLt
  omega

/-- An update of one column lands on its own residue, in column `k`. -/
theorem one_lands (k : BitVec 32) (z' : Fin 2) (i' : Fin 512) (z : Fin 2) (i : Fin 512) (n : Fin 128) :
    scatter_S2x512x128_S1_S2x512_01_2_2_0.resultIdx? (ix2 z' i' : S2x512.Idx) (start k) = some (ix3 z i n) ↔
      z' = z ∧ i' = i ∧ k.toInt = (n.val : ℤ) := by
  rw [Routing.resultIdx?_eq_some]
  constructor
  · intro h
    have h0 : (0 : ℤ) + (z'.val : ℤ) = (z.val : ℤ) := h 0
    have h1 : (0 : ℤ) + (i'.val : ℤ) = (i.val : ℤ) := h 1
    have h2 : k.toInt + (0 : ℤ) = (n.val : ℤ) := h 2
    exact ⟨Fin.ext (by omega), Fin.ext (by omega), by omega⟩
  · rintro ⟨rfl, rfl, h2⟩ a
    match a with
    | ⟨0, _⟩ => exact (zero_add (z'.val : ℤ))
    | ⟨1, _⟩ => exact (zero_add (i'.val : ℤ))
    | ⟨2, _⟩ => exact (add_zero k.toInt).trans h2

/-- The four atoms of a residue, in the table's order. -/
def atoms (x : FVec Ideal S2x512x3x3 .f32) : Fin 4 → FVec Ideal S2x512x3 .f32 :=
  ![nitrogen x, alpha x, carbonyl x, addf (alpha x) (beta x)]

/-- Columns `3 a`, `3 a + 1`, `3 a + 2` hold atom `a`. -/
theorem table_atom (x : FVec Ideal S2x512x3x3 .f32) (o : IVec S2x512 32) (u : FVec Ideal S2x512x3 .f32) (z : Fin 2) (i : Fin 512)
    (a : Fin 4) (e : Fin 3) (n : Fin 128) (hn : n.val = 3 * a.val + e.val) : table x o u (ix3 z i n) = atoms x a (ix3 z i e) := by
  have he := e.isLt
  have k0 : (0#32).toInt = 0 := by decide
  have k3 : (3#32).toInt = 3 := by decide
  have k6 : (6#32).toInt = 6 := by decide
  have k9 : (9#32).toInt = 9 := by decide
  have k12 : (12#32).toInt = 12 := by decide
  have k13 : (13#32).toInt = 13 := by decide
  have hone : ∀ (t : FVec Ideal S2x512x128 .f32), n.val < 12 →
      Host.scatter scatter_S2x512x128_S1_S2x512_01_2_2_0 (fun _ b => b) t (start 12#32) (sitofp (F := Ideal) .f32 o) (ix3 z i n) = t (ix3 z i n) := by
    intro t hl
    refine Routing.scatter_set_miss _ t (start 12#32) _ (ix3 z i n) (fun j hj => ?_)
    idx_vars j
    obtain ⟨rfl, rfl, h'⟩ := (one_lands 12#32 _ _ z i n).1 hj
    omega
  unfold table
  have ha := a.isLt
  rw [putThree_miss _ _ _ _ _ _ (by omega), hone _ (by omega)]
  match a, hn with
  | ⟨0, _⟩, hn =>
    have hn : n.val = 3 * 0 + e.val := hn
    rw [putThree_miss _ _ _ _ _ _ (by omega), putThree_miss _ _ _ _ _ _ (by omega), putThree_miss _ _ _ _ _ _ (by omega), putThree_hit _ _ _ _ _ _ e (by omega)]
    rfl
  | ⟨1, _⟩, hn =>
    have hn : n.val = 3 * 1 + e.val := hn
    rw [putThree_miss _ _ _ _ _ _ (by omega), putThree_miss _ _ _ _ _ _ (by omega), putThree_hit _ _ _ _ _ _ e (by omega)]
    rfl
  | ⟨2, _⟩, hn =>
    have hn : n.val = 3 * 2 + e.val := hn
    rw [putThree_miss _ _ _ _ _ _ (by omega), putThree_hit _ _ _ _ _ _ e (by omega)]
    rfl
  | ⟨3, _⟩, hn =>
    have hn : n.val = 3 * 3 + e.val := hn
    rw [putThree_hit _ _ _ _ _ _ e (by omega)]
    rfl

/-- Column 12 holds the decoding order. -/
theorem table_order (x : FVec Ideal S2x512x3x3 .f32) (o : IVec S2x512 32) (u : FVec Ideal S2x512x3 .f32) (z : Fin 2) (i : Fin 512)
    (n : Fin 128) (hn : n.val = 12) : table x o u (ix3 z i n) = (((o (ix2 z i)).toInt : ℝ) : EReal) := by
  have k12 : (12#32).toInt = 12 := by decide
  have k13 : (13#32).toInt = 13 := by decide
  unfold table
  rw [putThree_miss _ _ _ _ _ _ (by omega)]
  refine Routing.scatter_set_hit _ _ (start 12#32) _ (ix3 z i n) _ (fun j hj => ?_) (ix2 z i) ((one_lands 12#32 z i z i n).2 ⟨rfl, rfl, by omega⟩)
  idx_vars j
  obtain ⟨rfl, rfl, h'⟩ := (one_lands 12#32 _ _ z i n).1 hj
  rfl

/-- Row `e` of the planes holds coordinate `e` of the alpha carbons. -/
theorem planes_at (x : FVec Ideal S2x512x3x3 .f32) (z : Fin 2) (e : Fin 3) (j : Fin 512) (n : Fin 8) (hn : n.val = e.val) :
    planes x (ix3 z n j) = alpha x (ix3 z j e) := by
  have k0 : (0#32).toInt = 0 := by decide
  have lands : ∀ (z' : Fin 2) (e' : Fin 3) (j' : Fin 512),
      scatter_S2x8x512_S1_S2x3x512_012_n_1_0.resultIdx? (ix3 z' e' j' : S2x3x512.Idx) (start 0#32) = some (ix3 z n j) ↔
        z' = z ∧ j' = j ∧ e'.val = n.val := by
    intro z' e' j'
    rw [Routing.resultIdx?_eq_some]
    constructor
    · intro h
      have h0 : (0 : ℤ) + (z'.val : ℤ) = (z.val : ℤ) := h 0
      have h1 : (0#32).toInt + (e'.val : ℤ) = (n.val : ℤ) := h 1
      have h2 : (0 : ℤ) + (j'.val : ℤ) = (j.val : ℤ) := h 2
      exact ⟨Fin.ext (by omega), Fin.ext (by omega), by omega⟩
    · rintro ⟨rfl, rfl, h2⟩ a
      match a with
      | ⟨0, _⟩ => exact (zero_add (z'.val : ℤ))
      | ⟨1, _⟩ => show (0#32).toInt + (e'.val : ℤ) = (n.val : ℤ); omega
      | ⟨2, _⟩ => exact (zero_add (j'.val : ℤ))
  unfold planes
  refine Routing.scatter_set_hit _ _ (start 0#32) _ (ix3 z n j) _ (fun k hk => ?_) (ix3 z e j) ((lands z e j).2 ⟨rfl, rfl, by omega⟩)
  idx_vars k
  obtain ⟨rfl, rfl, h'⟩ := (lands _ _ _).1 hk
  rw [show k1 = e from Fin.ext (by omega)]
  pointwise

end Cert.Feat

end
-- ==== Proof.Feat.Rounds.lean ====
/-
  The rounds of the kernel's neighbour search. Each round takes the least distance of every row, the first column at
  which it stands, and overwrites that column with the top element. The thirty positions and the thirty distances the
  kernel puts side by side are those of the thirty rounds.
-/
module

public import proofs.«01_k».proof.Proof.Gen.KernelIdeal.Skeleton
public import proofs.«01_k».proof.Proof.Gen.KernelIdeal.Frame
public import Idealize.ShloMosaic.Lib.Pointwise

@[expose] public section

set_option maxRecDepth 16384

noncomputable section

namespace Cert.Feat

open Idealize.ShloMosaic Idealize.ShloMosaic.TcCoe Idealize.SL.Sem
open Cert.KernelIdeal Cert.KernelIdeal.Gen

variable {F : FTy → Type} [FloatOps F]

/-- The column number of every entry. -/
def columns : IVec S32x512 32 := iota .tc S32x512 32 [1] iota_S32x512_d1_w32

/-- The least distance of every row. -/
def leastOf (w : FVec F S32x512 .f32) : FVec F S32x1 .f32 :=
  shapeCast S32x1 (multiReduction .minimumf [1] S32 w 0x7F800000#32 reduces_S32x512_S32 (.inl rfl) rfl) shapeCasts_S32_S32x1

/-- Where the least distance of the row stands. -/
def hits (w : FVec F S32x512 .f32) : IVec S32x512 1 := cmpf .oeq w (broadcastTo S32x512 (leastOf w) broadcasts_S32x1_S32x512)

/-- The first column at which the least distance of the row stands. -/
def firstAt (w : FVec F S32x512 .f32) : IVec S32x1 32 :=
  shapeCast S32x1 (multiReductionI .minsi [1] S32 (select (hits w) columns (broadcast S32x512 512#32)) 2147483647#32 reduces_S32x512_S32 rfl) shapeCasts_S32_S32x1

/-- The distances with the first least column of every row overwritten by the top element. -/
def overwrite (w : FVec F S32x512 .f32) : FVec F S32x512 .f32 :=
  select (cmpi .eq columns (broadcastTo S32x512 (firstAt w) broadcasts_S32x1_S32x512)) (broadcast S32x512 (Scalar.ofBits .f32 0x7F800000#32)) w

/-- The distances before round `t`. -/
def rounds (w : FVec F S32x512 .f32) : Nat → FVec F S32x512 .f32
  | 0 => w
  | t + 1 => overwrite (rounds w t)

/-- The thirty positions side by side. -/
def positions (w : FVec F S32x512 .f32) : IVec S32x30 32 :=
  concatenate S32x30 1 (List.ofFn fun k : Fin 30 => ⟨S32x1, firstAt (rounds w k.val)⟩)
    concatenates_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x30_d1

/-- The thirty distances side by side. -/
def distances (w : FVec F S32x512 .f32) : FVec F S32x30 .f32 :=
  concatenate S32x30 1 (List.ofFn fun k : Fin 30 => ⟨S32x1, leastOf (rounds w k.val)⟩)
    concatenates_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x30_d1

/-- Which of the thirty columns are neighbours: the distance is not zero and below twelve. -/
def near (w : FVec F S32x512 .f32) : IVec S32x30 1 :=
  andi (cmpf .one (distances w) (broadcast S32x30 (Scalar.ofBits .f32 0x00000000#32))) (cmpf .olt (distances w) (broadcast S32x30 (Scalar.ofBits .f32 0x41400000#32)))

section Payloads

variable (i : grid0.Coords) (x0 : Vec F S1x32x128 .f32) (x1 : Vec F S1x8x512 .f32) (x2 : Vec F S3072x128 .f32) (x3 : Vec F S1x128 .f32)
  (x4 : Vec F S1x128 .f32) (x5 : Vec F S1x128 .f32) (x6 : Vec F S128x128 .f32) (x7 : Vec F S1x128 .f32)

/-- The neighbour block the kernel stores: the position of the round where the test holds, the row's own number elsewhere. -/
theorem out_positions : out0_9 i x0 x1 x2 x3 x4 x5 x6 x7 =
    View.canon [⟨r0_7, k0_pay1 (positions (k0_pay268 i x0 x1 x2 x3 x4 x5 x6 x7)) (near (k0_pay268 i x0 x1 x2 x3 x4 x5 x6 x7)) (k0_pay195 (k0_pay13 i))⟩] := by
  rfl

/-- The mask block the kernel stores: the test of the rounds' distances. -/
theorem out_near : out0_10 i x0 x1 x2 x3 x4 x5 x6 x7 =
    View.canon [⟨r0_7, k0_pay2 (near (k0_pay268 i x0 x1 x2 x3 x4 x5 x6 x7))⟩] := by
  rfl

end Payloads

end Cert.Feat

end
-- ==== Proof.Feat.Select.lean ====
/-
  Choosing the nearest neighbours twice: once by a stable sort of a row of distances, once by taking the least entry
  again and again and overwriting it with the top element. Both choose the same positions in the same order as long
  as the chosen distance is below the top element.
-/
module

public import Idealize.ShloMosaic.Lib.SortPrefix
public import Idealize.ShloMosaic.Lib.Pointwise

@[expose] public section

noncomputable section

namespace Cert.Feat

open Idealize.ShloMosaic

/-! ## The stable sort of a row -/

/-- The positions of a row in the order of a stable ascending sort. -/
def order {n : Nat} (f : Fin n → EReal) : Fin n → Fin n := sortedFrom fun k k' => decide (f k < f k')

/-- "Smaller, or equal and earlier", the strict total order on positions that a stable ascending sort realises. -/
def precedes {n : Nat} (f : Fin n → EReal) (k k' : Fin n) : Bool :=
  decide (f k < f k') || (decide (f k = f k') && decide (k < k'))

/-- Smaller first, and of equals the earlier, is a strict total order of the positions. -/
theorem precedes_total {n : Nat} (f : Fin n → EReal) : StrictTotalBefore (precedes f) :=
  StrictTotalBefore.of_key_then_position (fun a b : EReal => decide (a < b)) f (fun a => by simp)
    (fun a b c h h' => by
      simp only [decide_eq_true_eq] at h h' ⊢
      exact lt_trans h h')
    (fun a b => by
      simp only [decide_eq_true_eq]
      exact lt_trichotomy a b)

/-- Insertion sees only the entries already in the list: two relations that agree towards the inserted element give
    the same list. -/
theorem stableSort_precedes {n : Nat} (f : Fin n → EReal) (l : List (Fin n)) (hl : l.Pairwise (· < ·)) :
    stableSort (fun k k' => decide (f k < f k')) l = stableSort (precedes f) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp [precedes, not_lt.2 hab.le]

/-- The stable ascending sort orders positions by distance and then by place. -/
theorem order_eq {n : Nat} (f : Fin n → EReal) : order f = sortedFrom (precedes f) := by
  funext k
  unfold order sortedFrom
  have h : sortPositions n (fun k k' => decide (f k < f k')) = sortPositions n (precedes f) :=
    stableSort_precedes f _ (List.pairwise_lt_finRange n)
  rw [List.get_of_eq h]
  rfl

/-- The sorted row names no position twice. -/
theorem order_injective {n : Nat} (f : Fin n → EReal) : Function.Injective (order f) := sortedFrom_injective _

/-- The sorted row names every position. -/
theorem order_surjective {n : Nat} (f : Fin n → EReal) : Function.Surjective (order f) := sortedFrom_surjective _

/-- An earlier position of the sorted row holds a smaller distance, or an equal one that stood earlier. -/
theorem order_precedes {n : Nat} (f : Fin n → EReal) {a b : Fin n} (h : a < b) :
    f (order f a) < f (order f b) ∨ (f (order f a) = f (order f b) ∧ order f a < order f b) := by
  have hB := precedes_total f
  have h1 := sortedFrom_noInversion (precedes f) (precedes f) (fun a b h => hB.asymm a b h) (fun _ _ h => h) hB.negTrans a b h
  rw [← order_eq] at h1
  have hne : order f a ≠ order f b := fun e => h.ne (order_injective f e)
  rcases hB.total _ _ hne with h2 | h2
  · simpa [precedes] using h2
  · rw [h1] at h2; exact absurd h2 (by decide)

/-- The sorted row does not decrease. -/
theorem order_le {n : Nat} (f : Fin n → EReal) {a b : Fin n} (h : a ≤ b) : f (order f a) ≤ f (order f b) := by
  rcases h.lt_or_eq with h | rfl
  · rcases order_precedes f h with h | h
    · exact h.le
    · exact h.1.le
  · exact le_rfl

/-! ## Taking the least entry again and again -/

/-- The row after `t` rounds: the first `t` chosen entries are the top element, the others untouched. -/
def remaining {n : Nat} (f : Fin n → EReal) (t : Nat) (j : Fin n) : EReal :=
  open Classical in if ∃ s : Fin n, s.val < t ∧ order f s = j then ⊤ else f j

/-- Before the first round the row is untouched. -/
theorem remaining_zero {n : Nat} (f : Fin n → EReal) : remaining f 0 = f := by
  funext j
  exact if_neg (by rintro ⟨s, hs, _⟩; exact absurd hs (by omega))

/-- The entry that round `t` is to choose is untouched before it. -/
theorem remaining_order {n : Nat} (f : Fin n → EReal) (t : Fin n) : remaining f t.val (order f t) = f (order f t) :=
  if_neg (by
    rintro ⟨s, hs, he⟩
    have := order_injective f he
    subst this
    exact lt_irrefl _ hs)

/-- The entry chosen in round `t` is the least of the remaining row. -/
theorem le_remaining {n : Nat} (f : Fin n → EReal) (t : Fin n) (j : Fin n) : f (order f t) ≤ remaining f t.val j := by
  unfold remaining
  split
  · exact le_top
  · rename_i h
    obtain ⟨s, rfl⟩ := order_surjective f j
    exact order_le f (not_lt.1 fun hs => h ⟨s, hs, rfl⟩)

/-- When the chosen distance is below the top element, its position is the first at which the least entry stands. -/
theorem order_first {n : Nat} (f : Fin n → EReal) (t : Fin n) (ht : f (order f t) < ⊤) (j : Fin n)
    (hj : remaining f t.val j = f (order f t)) : order f t ≤ j := by
  obtain ⟨s, rfl⟩ := order_surjective f j
  unfold remaining at hj
  split at hj
  · rw [← hj] at ht; exact absurd ht (lt_irrefl _)
  · rename_i h
    have hs : t ≤ s := not_lt.1 fun hs => h ⟨s, hs, rfl⟩
    rcases hs.lt_or_eq with h1 | rfl
    · rcases order_precedes f h1 with h2 | h2
      · rw [hj] at h2; exact absurd h2 (lt_irrefl _)
      · exact h2.2.le
    · exact le_rfl

/-- One round: overwriting the chosen position. When the least entry is the top element nothing is left to overwrite,
    so the position chosen then does not matter. -/
theorem remaining_succ {n : Nat} (f : Fin n → EReal) (t : Fin n) (p : Fin n → Prop) [DecidablePred p]
    (hp : f (order f t) < ⊤ → ∀ j, p j ↔ j = order f t) (j : Fin n) :
    (if p j then ⊤ else remaining f t.val j) = remaining f (t.val + 1) j := by
  by_cases ht : f (order f t) < ⊤
  · simp only [hp ht]
    unfold remaining
    by_cases hj : j = order f t
    · subst hj
      rw [if_pos rfl, if_pos ⟨t, by omega, rfl⟩]
    · rw [if_neg hj]
      congr 1
      refine propext ⟨fun ⟨s, hs, he⟩ => ⟨s, by omega, he⟩, fun ⟨s, hs, he⟩ => ⟨s, ?_, he⟩⟩
      rcases Nat.lt_succ_iff_lt_or_eq.1 hs with h | h
      · exact h
      · exact absurd (by rw [← he, Fin.ext h]) hj
  · have htop : f (order f t) = ⊤ := not_lt_top_iff.1 ht
    have hall : ∀ s : Fin n, t ≤ s → f (order f s) = ⊤ := fun s hs => top_le_iff.1 (htop ▸ order_le f hs)
    have hrem : ∀ r, t.val ≤ r → remaining f r j = ⊤ := fun r hr => by
      unfold remaining
      split
      · rfl
      · rename_i h
        obtain ⟨s, rfl⟩ := order_surjective f j
        refine hall s (not_lt.1 fun hs => h ⟨s, ?_, rfl⟩)
        have : s.val < t.val := hs
        omega
    rw [hrem _ le_rfl, hrem _ (Nat.le_succ _), ite_self]

/-! ## Least elements as folds -/

/-- The least of a row, as a fold from the top element. -/
theorem fold_min_eq {n : Nat} (w : Fin n → EReal) (v : EReal) (a : Fin n) (ha : w a = v) (hv : ∀ j, v ≤ w j) :
    Finset.univ.fold min ⊤ w = v := by
  refine le_antisymm ?_ ?_
  · rw [← ha]
    exact (Finset.fold_min_le (b := (⊤ : EReal)) (s := Finset.univ) (f := w) (c := w a)).2 (Or.inr ⟨a, Finset.mem_univ a, le_rfl⟩)
  · exact (Finset.le_fold_min (b := (⊤ : EReal)) (s := Finset.univ) (f := w) (c := v)).2 ⟨le_top, fun j _ => hv j⟩

/-- The smaller of two words is the first, where the first is not above the second. -/
theorem minsi_of_le {a v : BitVec 32} (h : v.toInt ≤ a.toInt) : IntOp.minsi v a = v := by
  unfold IntOp.minsi
  split
  · rfl
  · rename_i hn
    have h1 : ¬ v.toInt < a.toInt := fun h' => hn (by simpa [BitVec.slt] using h')
    exact BitVec.eq_of_toInt_eq (by omega)

/-- The smaller of two words is the second, where the second is not above the first. -/
theorem minsi_of_ge {a v : BitVec 32} (h : v.toInt ≤ a.toInt) : IntOp.minsi a v = v := by
  unfold IntOp.minsi
  split
  · rename_i hn
    have h1 : a.toInt < v.toInt := by simpa [BitVec.slt] using hn
    omega
  · rfl

/-- A word below two words is below the smaller of them. -/
theorem le_minsi {a b v : BitVec 32} (ha : v.toInt ≤ a.toInt) (hb : v.toInt ≤ b.toInt) : v.toInt ≤ (IntOp.minsi a b).toInt := by
  unfold IntOp.minsi
  split
  · exact ha
  · exact hb

/-- The least of a family of signed words, as a fold. -/
theorem fold_minsi_eq {n : Nat} [Std.Commutative (IntOp.minsi : BitVec 32 → BitVec 32 → BitVec 32)]
    [Std.Associative (IntOp.minsi : BitVec 32 → BitVec 32 → BitVec 32)] (init : BitVec 32) (g : Fin n → BitVec 32) (v : BitVec 32)
    (a : Fin n) (ha : g a = v) (hv : ∀ j, v.toInt ≤ (g j).toInt) (hi : v.toInt ≤ init.toInt) :
    Finset.univ.fold IntOp.minsi init g = v := by
  have key : ∀ s : Finset (Fin n), v.toInt ≤ (s.fold IntOp.minsi init g).toInt ∧ (a ∈ s → s.fold IntOp.minsi init g = v) := by
    intro s
    induction s using Finset.induction with
    | empty => exact ⟨by simpa using hi, fun h => absurd h (Finset.notMem_empty a)⟩
    | insert b s hb ih =>
      rw [Finset.fold_insert hb]
      refine ⟨le_minsi (hv b) ih.1, fun h => ?_⟩
      rcases Finset.mem_insert.1 h with rfl | h
      · rw [ha]; exact minsi_of_le ih.1
      · rw [ih.2 h]; exact minsi_of_ge (hv b)
  exact (key Finset.univ).2 (Finset.mem_univ a)

/-! ## A difference taken in two parts -/

/-- Splitting a number into a rounded part and the rest, with exact arithmetic, changes no squared difference: on the
    finite numbers the rest is zero, and at the infinities both squares are the top element. -/
theorem sq_split (u x : EReal) : (u - x) * (u - x) = (u - (x + (x - x))) * (u - (x + (x - x))) := by
  induction x using EReal.rec with
  | bot =>
    rw [show (⊥ : EReal) + (⊥ - ⊥) = ⊥ from EReal.bot_add _]
  | coe r =>
    rw [show ((r : EReal) - (r : EReal)) = 0 from by rw [← EReal.coe_sub, sub_self]; rfl, add_zero]
  | top =>
    rw [show (⊤ : EReal) + (⊤ - ⊤) = ⊥ from EReal.add_bot _]
    induction u using EReal.rec <;> rfl

end Cert.Feat

end
-- ==== Proof.Feat.RoundsRead.lean ====
/-
  The rounds of the kernel's neighbour search, read at one row: round `t` finds the entry that a stable ascending sort
  of the row puts at place `t`.
-/
module

public import proofs.«01_k».proof.Proof.Feat.Rounds
public import proofs.«01_k».proof.Proof.Feat.Select
public import Idealize.ShloMosaic.Lib.Pipeline.ValueKit

@[expose] public section

set_option maxRecDepth 16384

noncomputable section

namespace Cert.Feat

open Idealize.ShloMosaic Idealize.ShloMosaic.TcCoe Idealize.SL.Sem
open Cert.KernelIdeal Cert.KernelIdeal.Gen

/-- The word of the top element. -/
theorem top_word : Ideal.ofBits .f32 0x7F800000#32 = ⊤ := by simp [Ideal.ofBits, Ideal.ieee]

/-- The least entry of a row of a block. -/
theorem leastOf_read (w : FVec Ideal S32x512 .f32) (r : Fin 32) :
    leastOf w (ix2 r 0) = Finset.univ.fold min ⊤ fun j : Fin 512 => w (ix2 r j) := by
  pointwise [leastOf]
  rw [top_word]

/-- The first column of a row that holds its least entry. -/
theorem firstAt_read (w : FVec Ideal S32x512 .f32) (r : Fin 32) :
    firstAt w (ix2 r 0) = Finset.univ.fold IntOp.minsi 2147483647#32 fun j : Fin 512 =>
      if w (ix2 r j) = leastOf w (ix2 r 0) then BitVec.ofNat 32 j.val else 512#32 := by
  pointwise [firstAt, hits, columns]

/-- A block after one round, at an entry: the chosen column holds the top element. -/
theorem overwrite_read (w : FVec Ideal S32x512 .f32) (r : Fin 32) (j : Fin 512) :
    overwrite w (ix2 r j) = if BitVec.ofNat 32 j.val = firstAt w (ix2 r 0) then ⊤ else w (ix2 r j) := by
  pointwise [overwrite, columns]
  rw [top_word, WordCmp.cmpi_eq_eq, Scalar.select_decide]

/-- The position chosen in round `k` of a row. -/
theorem positions_read (w : FVec Ideal S32x512 .f32) (r : Fin 32) (k : Fin 30) :
    positions w (ix2 r k) = firstAt (rounds w k.val) (ix2 r 0) :=
  concatenate_ofFn_unit_apply (t := S32x30) (s₁ := S32x1) 1 (fun k : Fin 30 => firstAt (rounds w k.val)) _ rfl rfl (ix2 r k) k rfl (ix2 r 0) fun b hb => by
    match b with
    | 0 => rfl
    | 1 => exact absurd rfl hb

/-- The distance chosen in round `k` of a row. -/
theorem distances_read (w : FVec Ideal S32x512 .f32) (r : Fin 32) (k : Fin 30) :
    distances w (ix2 r k) = leastOf (rounds w k.val) (ix2 r 0) :=
  concatenate_ofFn_unit_apply (t := S32x30) (s₁ := S32x1) 1 (fun k : Fin 30 => leastOf (rounds w k.val)) _ rfl rfl (ix2 r k) k rfl (ix2 r 0) fun b hb => by
    match b with
    | 0 => rfl
    | 1 => exact absurd rfl hb

/-- Whether the distance chosen in round `k` is neither nought nor twelve or more. -/
theorem near_read (w : FVec Ideal S32x512 .f32) (r : Fin 32) (k : Fin 30) :
    near w (ix2 r k) = IntOp.andi (BitVec.ofBool (decide (distances w (ix2 r k) ≠ 0)))
      (BitVec.ofBool (decide (distances w (ix2 r k) < Ideal.ofBits .f32 0x41400000#32))) := by
  pointwise [near]

/-- Row `r` of a block of distances. -/
def rowOf (w : FVec Ideal S32x512 .f32) (r : Fin 32) (j : Fin 512) : EReal := w (ix2 r j)

/-- What one round finds in a row that `t` rounds have already overwritten: the entry at place `t` of the sorted row. -/
theorem round_finds (w v : FVec Ideal S32x512 .f32) (r : Fin 32) (t : Fin 512)
    (hv : ∀ j, v (ix2 r j) = remaining (rowOf w r) t.val j) :
    leastOf v (ix2 r 0) = rowOf w r (order (rowOf w r) t)
      ∧ (rowOf w r (order (rowOf w r) t) < ⊤ → firstAt v (ix2 r 0) = BitVec.ofNat 32 (order (rowOf w r) t).val) := by
  have hleast : leastOf v (ix2 r 0) = rowOf w r (order (rowOf w r) t) := by
    rw [leastOf_read]
    exact fold_min_eq _ _ (order (rowOf w r) t) ((hv _).trans (remaining_order _ t)) fun j => (le_remaining _ t j).trans_eq (hv j).symm
  refine ⟨hleast, fun htop => ?_⟩
  have small : ∀ k : Fin 512, (BitVec.ofNat 32 k.val).toInt = k.val := fun k => by
    rw [BitVec.toInt_eq_toNat_of_lt, BitVec.toNat_ofNat, Nat.mod_eq_of_lt] <;> first | omega | (rw [BitVec.toNat_ofNat]; omega)
  rw [firstAt_read]
  refine fold_minsi_eq _ _ _ (order (rowOf w r) t) ?_ (fun j => ?_) ?_
  · rw [if_pos (((hv _).trans (remaining_order _ t)).trans hleast.symm)]
  · rw [small]
    split
    · rename_i h
      rw [small]
      have := order_first (rowOf w r) t htop j ((hv j).symm.trans (h.trans hleast))
      exact_mod_cast this
    · have : ((512#32 : BitVec 32)).toInt = 512 := by decide
      rw [this]
      have := (order (rowOf w r) t).isLt
      omega
  · rw [small]
    have h2 : ((2147483647#32 : BitVec 32)).toInt = 2147483647 := by decide
    rw [h2]
    have := (order (rowOf w r) t).isLt
    omega

/-- After `t` rounds the first `t` entries of the sorted row are overwritten. -/
theorem rounds_read (w : FVec Ideal S32x512 .f32) (r : Fin 32) (t : Nat) (ht : t < 512) (j : Fin 512) :
    rounds w t (ix2 r j) = remaining (rowOf w r) t j := by
  induction t generalizing j with
  | zero => rw [remaining_zero]; rfl
  | succ t ih =>
    have hfind := round_finds w (rounds w t) r ⟨t, by omega⟩ (ih (by omega))
    show overwrite (rounds w t) (ix2 r j) = _
    rw [overwrite_read, ih (by omega)]
    refine remaining_succ (rowOf w r) ⟨t, by omega⟩ (fun j => BitVec.ofNat 32 j.val = firstAt (rounds w t) (ix2 r 0)) (fun htop j => ?_) j
    rw [hfind.2 htop]
    refine ⟨fun h => Fin.ext ?_, fun h => by rw [h]⟩
    have h' := congrArg BitVec.toNat h
    rw [BitVec.toNat_ofNat, BitVec.toNat_ofNat, Nat.mod_eq_of_lt (by omega), Nat.mod_eq_of_lt (by have := (order (rowOf w r) ⟨t, by omega⟩).isLt; omega)] at h'
    exact h'

/-- Column `k` of the thirty distances is entry `k` of the sorted row. -/
theorem distance_at (w : FVec Ideal S32x512 .f32) (r : Fin 32) (k : Fin 30) :
    distances w (ix2 r k) = rowOf w r (order (rowOf w r) (k.castLE (by omega))) := by
  rw [distances_read]
  exact (round_finds w _ r (k.castLE (by omega)) (rounds_read w r k.val (by omega))).1

/-- Column `k` of the thirty positions is position `k` of the sorted row, when the distance there is below the top
    element. -/
theorem position_at (w : FVec Ideal S32x512 .f32) (r : Fin 32) (k : Fin 30)
    (htop : rowOf w r (order (rowOf w r) (k.castLE (by omega))) < ⊤) :
    positions w (ix2 r k) = BitVec.ofNat 32 (order (rowOf w r) (k.castLE (by omega))).val := by
  rw [positions_read]
  exact (round_finds w _ r (k.castLE (by omega)) (rounds_read w r k.val (by omega))).2 htop

end Cert.Feat

end
-- ==== Proof.Feat.Nearest.lean ====
/-
  The first region's two claimed results: the neighbour of each residue at each rank, and whether it is near.
-/
module

public import proofs.«01_k».proof.Proof.Feat.Columns
public import proofs.«01_k».proof.Proof.Feat.RoundsRead
public import Idealize.ShloMosaic.Lib.Pipeline.ValueKit

@[expose] public section

set_option maxRecDepth 16384

noncomputable section

namespace Cert.Feat

open Idealize.ShloMosaic Idealize.ShloMosaic.TcCoe Idealize.SL.Sem
open Cert.KernelIdeal Cert.KernelIdeal.Gen
open Idealize.ShloMosaic.Pipeline (Dat)

/-! ## The specification -/

/-- The squared distance of two residues' alpha carbons. -/
def gap (x : FVec Ideal S2x512x3x3 .f32) (z : Fin 2) (i j : Fin 512) : EReal :=
  ∑ e : Fin 3, (alpha x (ix3 z i e) - alpha x (ix3 z j e)) * (alpha x (ix3 z i e) - alpha x (ix3 z j e))

/-- The distance the neighbours are ranked by: a residue at distance zero is put last. -/
def dist (x : FVec Ideal S2x512x3x3 .f32) (z : Fin 2) (i j : Fin 512) : EReal :=
  if Ideal.sqrt (gap x z i j) = 0 then ⊤ else Ideal.sqrt (gap x z i j)

/-- The residue at rank `k`. -/
def ranked (x : FVec Ideal S2x512x3x3 .f32) (z : Fin 2) (i : Fin 512) (k : Fin 30) : Fin 512 :=
  order (dist x z i) (k.castLE (by omega))

/-- Whether the residue at rank `k` is a neighbour: at a distance that is not zero and below twelve. -/
def keeps (x : FVec Ideal S2x512x3x3 .f32) (z : Fin 2) (i : Fin 512) (k : Fin 30) : Prop :=
  dist x z i (ranked x z i k) ≠ 0 ∧ dist x z i (ranked x z i k) < Ideal.ofBits .f32 0x41400000#32

open Classical in
/-- The neighbour at rank `k`: the residue there if it is near, else the residue itself. -/
def neighbour (x : FVec Ideal S2x512x3x3 .f32) (z : Fin 2) (i : Fin 512) (k : Fin 30) : Fin 512 :=
  if keeps x z i k then ranked x z i k else i

/-! ## The matrix of distances of one block -/

/-- One entry of the matrix of distances of a block, from the block's table and planes. -/
theorem weights_read (i : grid0.Coords) (x0 : FVec Ideal S1x32x128 .f32) (x1 : FVec Ideal S1x8x512 .f32) (x2 : FVec Ideal S3072x128 .f32) (x3 x4 x5 : FVec Ideal S1x128 .f32) (x6 : FVec Ideal S128x128 .f32) (x7 : FVec Ideal S1x128 .f32) (r : Fin 32) (j : Fin 512)
    (p : Fin 3 → EReal) (q : Fin 3 → EReal) (p0 : x0 (ix3 0 r 3) = p 0) (p1 : x0 (ix3 0 r 4) = p 1) (p2 : x0 (ix3 0 r 5) = p 2)
    (q0 : x1 (ix3 0 0 j) = q 0) (q1 : x1 (ix3 0 1 j) = q 1) (q2 : x1 (ix3 0 2 j) = q 2) :
    k0_pay268 (F := Ideal) i x0 x1 x2 x3 x4 x5 x6 x7 (ix2 r j) =
      if Ideal.sqrt (∑ e : Fin 3, (p e - q e) * (p e - q e)) = 0 then ⊤ else Ideal.sqrt (∑ e : Fin 3, (p e - q e) * (p e - q e)) := by
  pointwise [k0_pay268, k0_pay204, k0_pay96, k0_pay12, k0_pay11, k0_pay10, k0_pay7, k0_pay8, k0_pay9, k0_pay3]
  rw [Fin.sum_univ_three, p0, p1, p2, q0, q1, q2, top_word]

/-- What the first region's body leaves in its second output: the position of the ranked residue where it is near,
    else the residue's own number. -/
theorem positions_stored (i : grid0.Coords) (x0 : FVec Ideal S1x32x128 .f32) (x1 : FVec Ideal S1x8x512 .f32) (x2 : FVec Ideal S3072x128 .f32) (x3 x4 x5 : FVec Ideal S1x128 .f32) (x6 : FVec Ideal S128x128 .f32) (x7 : FVec Ideal S1x128 .f32) (r : Fin 32) (k : Fin 30) :
    out0_9 (F := Ideal) i x0 x1 x2 x3 x4 x5 x6 x7 (ix3 0 r k) =
      Scalar.select (near (k0_pay268 (F := Ideal) i x0 x1 x2 x3 x4 x5 x6 x7) (ix2 r k)) (positions (k0_pay268 (F := Ideal) i x0 x1 x2 x3 x4 x5 x6 x7) (ix2 r k))
        (BitVec.ofNat 32 ((i 1).val * 32 + r.val)) := by
  rw [out_positions]
  generalize k0_pay268 (F := Ideal) i x0 x1 x2 x3 x4 x5 x6 x7 = w
  canon_tiles y h
  obtain rfl : r = y 1 := Fin.ext h1
  obtain rfl : k = y 2 := Fin.ext h2
  pointwise [k0_pay1, k0_pay195, k0_pay13]
  rw [BitVec.ofNat_add, BitVec.ofNat_mul]
  rfl

/-- What the first region's body leaves in its third output: one where the ranked residue is near, else zero. -/
theorem near_stored (i : grid0.Coords) (x0 : FVec Ideal S1x32x128 .f32) (x1 : FVec Ideal S1x8x512 .f32) (x2 : FVec Ideal S3072x128 .f32) (x3 x4 x5 : FVec Ideal S1x128 .f32) (x6 : FVec Ideal S128x128 .f32) (x7 : FVec Ideal S1x128 .f32) (r : Fin 32) (k : Fin 30) :
    out0_10 (F := Ideal) i x0 x1 x2 x3 x4 x5 x6 x7 (ix3 0 r k) =
      (near (k0_pay268 (F := Ideal) i x0 x1 x2 x3 x4 x5 x6 x7) (ix2 r k)).setWidth 32 := by
  rw [out_near]
  generalize k0_pay268 (F := Ideal) i x0 x1 x2 x3 x4 x5 x6 x7 = w
  canon_tiles y h
  obtain rfl : r = y 1 := Fin.ext h1
  obtain rfl : k = y 2 := Fin.ext h2
  pointwise [k0_pay2]

/-- The blocks of the first region: batch `t / 16`, rows `32 (t % 16)` on. -/
theorem idx0 : ∀ t : Fin cfg0.N, win0_0.index t = ![t.val / 16, t.val % 16, 0] ∧ win0_1.index t = ![t.val / 16, 0, 0] ∧ win0_9.index t = ![t.val / 16, t.val % 16, 0] ∧ win0_10.index t = ![t.val / 16, t.val % 16, 0] :=
  (by decide +kernel : ∀ t : Fin grid0.N, _)

variable (m : (ℓ : Loc nD τ sig) → Buf (Elt Ideal) ℓ) (ρ : Dev nD → PrngReg) (c : Dev nD)

/-- The coordinates of the first region's grid points: batch `t / 16`, rows `32 (t % 16)` on. -/
theorem coords0 : ∀ t : Fin cfg0.N, ((grid0.coords t) 0).val = t.val / 16 ∧ ((grid0.coords t) 1).val = t.val % 16 :=
  (by decide +kernel : ∀ t : Fin grid0.N, _)

/-- A block of the table, read at a row and a column. -/
theorem block_table (V : (c : Dev nD) → (b : Ref sig .tc) → Buf (Elt Ideal) ((c : Thread nD τ).loc b)) (t : Fin cfg0.N) (r : Fin 32) (n : Fin 128) (z : Fin 2) (i : Fin 512)
    (hz : z.val = t.val / 16) (hi : i.val = t.val % 16 * 32 + r.val) : iblk0 V c 0 t (ix3 0 r n) = V c main_v38 (ix3 z i n) := by
  blk_point [iblk0, idx0 t]

/-- A block of the planes, read at a row and a column. -/
theorem block_planes (V : (c : Dev nD) → (b : Ref sig .tc) → Buf (Elt Ideal) ((c : Thread nD τ).loc b)) (t : Fin cfg0.N) (n : Fin 8) (j : Fin 512) (z : Fin 2)
    (hz : z.val = t.val / 16) : iblk0 V c 1 t (ix3 0 n j) = V c main_v42 (ix3 z n j) := by
  blk_point [iblk0, idx0 t]

/-- A row of the matrix of distances of a block is the residue's row of distances. -/
theorem block_weights (t : Fin cfg0.N) (r : Fin 32) (z : Fin 2) (i : Fin 512)
    (hz : z.val = t.val / 16) (hi : i.val = t.val % 16 * 32 + r.val) :
    rowOf (k0_pay268 (F := Ideal) (grid0.coords t) (iblk0 (V5 m ρ) c 0 t) (iblk0 (V5 m ρ) c 1 t) (iblk0 (V5 m ρ) c 2 t) (iblk0 (V5 m ρ) c 3 t) (iblk0 (V5 m ρ) c 4 t)
      (iblk0 (V5 m ρ) c 5 t) (iblk0 (V5 m ρ) c 6 t) (iblk0 (V5 m ρ) c 7 t)) r = dist (m ((c.tc : Thread nD τ).loc main_arg0)) z i := by
  funext j
  obtain ⟨u, hu⟩ := W5_table m ρ c
  have hp := W5_planes m ρ c
  have ht : ∀ (e : Fin 3) (n : Fin 128), n.val = 3 + e.val → iblk0 (V5 m ρ) c 0 t (ix3 0 r n) = alpha (m ((c.tc : Thread nD τ).loc main_arg0)) (ix3 z i e) := by
    intro e n hn
    rw [block_table c (V5 m ρ) t r n z i hz hi]
    refine (congrFun hu _).trans ((table_atom _ _ u z i 1 e n (by simpa using hn)).trans rfl)
  have hq : ∀ (e : Fin 3) (n : Fin 8), n.val = e.val → iblk0 (V5 m ρ) c 1 t (ix3 0 n j) = alpha (m ((c.tc : Thread nD τ).loc main_arg0)) (ix3 z j e) := by
    intro e n hn
    rw [block_planes c (V5 m ρ) t n j z hz]
    exact (congrFun hp _).trans (planes_at _ z e j n hn)
  exact weights_read _ _ _ _ _ _ _ _ _ r j (fun e => alpha (m ((c.tc : Thread nD τ).loc main_arg0)) (ix3 z i e)) (fun e => alpha (m ((c.tc : Thread nD τ).loc main_arg0)) (ix3 z j e))
    (ht 0 3 rfl) (ht 1 4 rfl) (ht 2 5 rfl) (hq 0 0 rfl) (hq 1 1 rfl) (hq 2 2 rfl)

/-- The word of the mask of near neighbours. -/
theorem near_word (w : FVec Ideal S32x512 .f32) (x : FVec Ideal S2x512x3x3 .f32) (r : Fin 32) (z : Fin 2) (i : Fin 512) (k : Fin 30) (h : rowOf w r = dist x z i) :
    (keeps x z i k → near w (ix2 r k) = 1#1) ∧ (¬ keeps x z i k → near w (ix2 r k) = 0#1) := by
  have hd := distance_at w r k
  rw [h] at hd
  rw [near_read, hd]
  change (dist x z i (ranked x z i k) ≠ 0 ∧ dist x z i (ranked x z i k) < Ideal.ofBits .f32 0x41400000#32 → _) ∧ (¬ (dist x z i (ranked x z i k) ≠ 0 ∧ dist x z i (ranked x z i k) < Ideal.ofBits .f32 0x41400000#32) → _)
  change (_ → IntOp.andi (BitVec.ofBool (decide (dist x z i (ranked x z i k) ≠ 0))) (BitVec.ofBool (decide (dist x z i (ranked x z i k) < Ideal.ofBits .f32 0x41400000#32))) = 1#1) ∧
    (_ → IntOp.andi (BitVec.ofBool (decide (dist x z i (ranked x z i k) ≠ 0))) (BitVec.ofBool (decide (dist x z i (ranked x z i k) < Ideal.ofBits .f32 0x41400000#32))) = 0#1)
  by_cases h1 : dist x z i (ranked x z i k) ≠ 0 <;> by_cases h2 : dist x z i (ranked x z i k) < Ideal.ofBits .f32 0x41400000#32
  · rw [decide_eq_true h1, decide_eq_true h2]; exact ⟨fun _ => by decide, fun n => absurd ⟨h1, h2⟩ n⟩
  · rw [decide_eq_true h1, decide_eq_false h2]; exact ⟨fun n => absurd n.2 h2, fun _ => by decide⟩
  · rw [decide_eq_false h1, decide_eq_true h2]; exact ⟨fun n => absurd n.1 h1, fun _ => by decide⟩
  · rw [decide_eq_false h1, decide_eq_false h2]; exact ⟨fun n => absurd n.1 h1, fun _ => by decide⟩

/-- The neighbours as words. -/
def neighbours (x : FVec Ideal S2x512x3x3 .f32) : IVec S2x512x30 32 := fun y => BitVec.ofNat 32 (neighbour x (y 0) (y 1) (y 2)).val

open Classical in
/-- The mask of near neighbours as words. -/
def nears (x : FVec Ideal S2x512x3x3 .f32) : IVec S2x512x30 32 := fun y => if keeps x (y 0) (y 1) (y 2) then 1#32 else 0#32

/-- The neighbours the first region leaves. -/
theorem neighbours_left : (dat0 (V5 m ρ) c).arrAt 9 cfg0.N = neighbours (m ((c.tc : Thread nD τ).loc main_arg0)) := by
  refine (dat0 (V5 m ρ) c).arrAt_eq_of_covers 9 _ (by decide +kernel) fun t _ y => ?_
  blk_simp
  rw [after0_9]
  idx_vars y
  obtain rfl : y0 = 0 := Subsingleton.elim _ _
  have N : cfg0.N = 32 := rfl
  have ht : t.val < 32 := t.isLt
  obtain ⟨z, hz⟩ : ∃ z : Fin 2, z.val = t.val / 16 := ⟨⟨t.val / 16, by omega⟩, rfl⟩
  obtain ⟨i, hi⟩ : ∃ i : Fin 512, i.val = t.val % 16 * 32 + y1.val := ⟨⟨t.val % 16 * 32 + y1.val, by omega⟩, rfl⟩
  have hw := block_weights m ρ c t y1 z i hz hi
  generalize m ((c.tc : Thread nD τ).loc main_arg0) = x at hw ⊢
  refine Eq.trans ?_ (show neighbours x (ix3 z i y2) = _ by blk_ext [idx0 t])
  refine (positions_stored _ _ _ _ _ _ _ _ _ y1 y2).trans ?_
  have hc := (coords0 t).2
  have hn := near_word _ x y1 z i y2 hw
  unfold neighbours
  simp only [ix3_0, ix3_1, ix3_2]
  by_cases hk : keeps x z i y2
  · rw [hn.1 hk]
    have htop : dist x z i (ranked x z i y2) < ⊤ := lt_of_lt_of_le hk.2 le_top
    have hp := position_at _ y1 y2 (by rw [hw]; exact htop)
    rw [hw] at hp
    refine Eq.trans hp ?_
    show BitVec.ofNat 32 (ranked x z i y2).val = BitVec.ofNat 32 (neighbour x z i y2).val
    rw [show neighbour x z i y2 = ranked x z i y2 from if_pos hk]
  · rw [hn.2 hk]
    show BitVec.ofNat 32 _ = BitVec.ofNat 32 (neighbour x z i y2).val
    rw [show neighbour x z i y2 = i from if_neg hk, hi, hc]

/-- The mask of near neighbours the first region leaves. -/
theorem nears_left : (dat0 (V5 m ρ) c).arrAt 10 cfg0.N = nears (m ((c.tc : Thread nD τ).loc main_arg0)) := by
  refine (dat0 (V5 m ρ) c).arrAt_eq_of_covers 10 _ (by decide +kernel) fun t _ y => ?_
  blk_simp
  rw [after0_10]
  idx_vars y
  obtain rfl : y0 = 0 := Subsingleton.elim _ _
  have N : cfg0.N = 32 := rfl
  have ht : t.val < 32 := t.isLt
  obtain ⟨z, hz⟩ : ∃ z : Fin 2, z.val = t.val / 16 := ⟨⟨t.val / 16, by omega⟩, rfl⟩
  obtain ⟨i, hi⟩ : ∃ i : Fin 512, i.val = t.val % 16 * 32 + y1.val := ⟨⟨t.val % 16 * 32 + y1.val, by omega⟩, rfl⟩
  have hw := block_weights m ρ c t y1 z i hz hi
  generalize m ((c.tc : Thread nD τ).loc main_arg0) = x at hw ⊢
  refine Eq.trans ?_ (show nears x (ix3 z i y2) = _ by blk_ext [idx0 t])
  refine (near_stored _ _ _ _ _ _ _ _ _ y1 y2).trans ?_
  have hn := near_word _ x y1 z i y2 hw
  unfold nears
  by_cases hk : keeps x z i y2
  · rw [hn.1 hk]
    exact (if_pos hk).symm
  · rw [hn.2 hk]
    exact (if_neg hk).symm

end Cert.Feat

end
-- ==== Proof.Feat.Exit.lean ====
/-
  The operands of the kernel's second region when it is entered, and the results after the last host operations, as
  terms of the arguments and of what the regions leave.
-/
module

public import proofs.«01_k».proof.Proof.Gen.KernelIdeal.Skeleton
public import proofs.«01_k».proof.Proof.Gen.KernelIdeal.Frame
public import Idealize.ShloMosaic.Lib.Pointwise
public import proofs.«01_k».proof.Proof.Feat.Entry
public import Idealize.ShloMosaic.Lib.Claim

@[expose] public section

set_option maxRecDepth 16384

noncomputable section

namespace Cert.Feat

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- A constant matrix after the first operations. -/
theorem W1_repeat_matrix : W1 m ρ c (Proc.devRef .tc main_cst_1) = (fun i => FloatOps.ofBits (F := Ideal) .f32 (lit2 (S960x32.rowMajor i))) := by
  show StableHlo.after hostOps0 (W0 m ρ c) (Proc.devRef .tc main_cst_1) = _
  generalize W0 m ρ c = W
  unfold hostOps0
  simp only [TRef.binary, TRef.nullary, TRef.reshape, TRef.ternary, TRef.unary, TRef.nary, TRef.toBuf, TRef.ofBuf, cast_eq]
  after_results_simp
  rfl

/-- A constant matrix at the entry of the second region. -/
theorem W7_repeat_matrix : W7 m ρ c (Proc.devRef .tc main_cst_1) = (fun i => FloatOps.ofBits (F := Ideal) .f32 (lit2 (S960x32.rowMajor i))) :=
  (W7_of m ρ c main_cst_1 (by decide)).trans ((W6_of m ρ c main_cst_1 (by decide +kernel)).trans ((W5_of m ρ c main_cst_1 (by decide)).trans ((W4_of m ρ c main_cst_1 (by decide)).trans ((W3_of m ρ c main_cst_1 (by decide)).trans ((W2_of m ρ c main_cst_1 (by decide)).trans (W1_repeat_matrix m ρ c))))))

/-- A constant matrix after the first operations. -/
theorem W1_first_matrix : W1 m ρ c (Proc.devRef .tc main_cst_2) = (fun i => FloatOps.ofBits (F := Ideal) .f32 (lit3 (S128x48.rowMajor i))) := by
  show StableHlo.after hostOps0 (W0 m ρ c) (Proc.devRef .tc main_cst_2) = _
  generalize W0 m ρ c = W
  unfold hostOps0
  simp only [TRef.binary, TRef.nullary, TRef.reshape, TRef.ternary, TRef.unary, TRef.nary, TRef.toBuf, TRef.ofBuf, cast_eq]
  after_results_simp
  rfl

/-- A constant matrix at the entry of the second region. -/
theorem W7_first_matrix : W7 m ρ c (Proc.devRef .tc main_cst_2) = (fun i => FloatOps.ofBits (F := Ideal) .f32 (lit3 (S128x48.rowMajor i))) :=
  (W7_of m ρ c main_cst_2 (by decide)).trans ((W6_of m ρ c main_cst_2 (by decide +kernel)).trans ((W5_of m ρ c main_cst_2 (by decide)).trans ((W4_of m ρ c main_cst_2 (by decide)).trans ((W3_of m ρ c main_cst_2 (by decide)).trans ((W2_of m ρ c main_cst_2 (by decide)).trans (W1_first_matrix m ρ c))))))

/-- A constant matrix after the first operations. -/
theorem W1_second_matrix : W1 m ρ c (Proc.devRef .tc main_cst_3) = (fun i => FloatOps.ofBits (F := Ideal) .f32 (lit4 (S128x48.rowMajor i))) := by
  show StableHlo.after hostOps0 (W0 m ρ c) (Proc.devRef .tc main_cst_3) = _
  generalize W0 m ρ c = W
  unfold hostOps0
  simp only [TRef.binary, TRef.nullary, TRef.reshape, TRef.ternary, TRef.unary, TRef.nary, TRef.toBuf, TRef.ofBuf, cast_eq]
  after_results_simp
  rfl

/-- A constant matrix at the entry of the second region. -/
theorem W7_second_matrix : W7 m ρ c (Proc.devRef .tc main_cst_3) = (fun i => FloatOps.ofBits (F := Ideal) .f32 (lit4 (S128x48.rowMajor i))) :=
  (W7_of m ρ c main_cst_3 (by decide)).trans ((W6_of m ρ c main_cst_3 (by decide +kernel)).trans ((W5_of m ρ c main_cst_3 (by decide)).trans ((W4_of m ρ c main_cst_3 (by decide)).trans ((W3_of m ρ c main_cst_3 (by decide)).trans ((W2_of m ρ c main_cst_3 (by decide)).trans (W1_second_matrix m ρ c))))))

/-- A constant matrix after the first operations. -/
theorem W1_sum_matrix : W1 m ρ c (Proc.devRef .tc main_cst_4) = (fun i => FloatOps.ofBits (F := Ideal) .f32 (lit5 (S48x16.rowMajor i))) := by
  show StableHlo.after hostOps0 (W0 m ρ c) (Proc.devRef .tc main_cst_4) = _
  generalize W0 m ρ c = W
  unfold hostOps0
  simp only [TRef.binary, TRef.nullary, TRef.reshape, TRef.ternary, TRef.unary, TRef.nary, TRef.toBuf, TRef.ofBuf, cast_eq]
  after_results_simp
  rfl

/-- A constant matrix at the entry of the second region. -/
theorem W7_sum_matrix : W7 m ρ c (Proc.devRef .tc main_cst_4) = (fun i => FloatOps.ofBits (F := Ideal) .f32 (lit5 (S48x16.rowMajor i))) :=
  (W7_of m ρ c main_cst_4 (by decide)).trans ((W6_of m ρ c main_cst_4 (by decide +kernel)).trans ((W5_of m ρ c main_cst_4 (by decide)).trans ((W4_of m ρ c main_cst_4 (by decide)).trans ((W3_of m ρ c main_cst_4 (by decide)).trans ((W2_of m ρ c main_cst_4 (by decide)).trans (W1_sum_matrix m ρ c))))))

/-- A constant matrix after the first operations. -/
theorem W1_widen_matrix : W1 m ρ c (Proc.devRef .tc main_cst_5) = (fun i => FloatOps.ofBits (F := Ideal) .f32 (lit6 (S16x256.rowMajor i))) := by
  show StableHlo.after hostOps0 (W0 m ρ c) (Proc.devRef .tc main_cst_5) = _
  generalize W0 m ρ c = W
  unfold hostOps0
  simp only [TRef.binary, TRef.nullary, TRef.reshape, TRef.ternary, TRef.unary, TRef.nary, TRef.toBuf, TRef.ofBuf, cast_eq]
  after_results_simp
  rfl

/-- A constant matrix at the entry of the second region. -/
theorem W7_widen_matrix : W7 m ρ c (Proc.devRef .tc main_cst_5) = (fun i => FloatOps.ofBits (F := Ideal) .f32 (lit6 (S16x256.rowMajor i))) :=
  (W7_of m ρ c main_cst_5 (by decide)).trans ((W6_of m ρ c main_cst_5 (by decide +kernel)).trans ((W5_of m ρ c main_cst_5 (by decide)).trans ((W4_of m ρ c main_cst_5 (by decide)).trans ((W3_of m ρ c main_cst_5 (by decide)).trans ((W2_of m ρ c main_cst_5 (by decide)).trans (W1_widen_matrix m ρ c))))))

/-- The table of residues at the entry of the second region. -/
theorem W7_table : W7 m ρ c (Proc.devRef .tc main_v38) = W5 m ρ c (Proc.devRef .tc main_v38) :=
  (W7_of m ρ c main_v38 (by decide)).trans (W6_of m ρ c main_v38 (by decide +kernel))

/-- The centres, repeated once for each pair of atoms. -/
theorem W7_centers : W7 m ρ c (Proc.devRef .tc main_v66) = shapeCast S1x256 (broadcastInDim S1x1x16x16 ![0, 1, 2, 3] bcast_S1x1x1x16_S1x1x16x16_0_1_2_3 (shapeCast S1x1x1x16 (shapeCast S1x16 (m ((c.tc : Thread nD τ).loc main_arg17)) shapeCasts_S16_S1x16) shapeCasts_S1x16_S1x1x1x16)) shapeCasts_S1x1x16x16_S1x256 := by
  have h0 : W6 m ρ c (Proc.devRef .tc main_arg17) = (m ((c.tc : Thread nD τ).loc main_arg17)) := W6_args m ρ c main_arg17 (by decide)
  show StableHlo.after hostOps1 (W6 m ρ c) (Proc.devRef .tc main_v66) = _
  generalize W6 m ρ c = W at h0 ⊢
  unfold hostOps1
  simp only [TRef.binary, TRef.nullary, TRef.reshape, TRef.ternary, TRef.unary, TRef.nary, TRef.toBuf, TRef.ofBuf, cast_eq]
  after_results_simp
  rw [h0]
  rfl

/-- The weights of the letters, padded with zero rows. -/
theorem W7_letters : W7 m ρ c (Proc.devRef .tc main_v69) = Host.scatter scatter_S128x128_S1_S21x128_01_n_0_0 (fun _ b => b) (broadcastInDim S128x128 ![] bcast_S_S128x128 (constant (F := Ideal) S_ .f32 0x00000000#32)) (start 0#32) (m ((c.tc : Thread nD τ).loc main_arg15)) := by
  have h0 : W6 m ρ c (Proc.devRef .tc main_arg15) = (m ((c.tc : Thread nD τ).loc main_arg15)) := W6_args m ρ c main_arg15 (by decide)
  show StableHlo.after hostOps1 (W6 m ρ c) (Proc.devRef .tc main_v69) = _
  generalize W6 m ρ c = W at h0 ⊢
  unfold hostOps1
  simp only [TRef.binary, TRef.nullary, TRef.reshape, TRef.ternary, TRef.unary, TRef.nary, TRef.toBuf, TRef.ofBuf, cast_eq]
  after_results_simp
  rw [h0]
  unfold start
  with_reducible rfl

/-- The neighbours as one column. -/
theorem W7_neighbours : W7 m ρ c (Proc.devRef .tc main_v70) = shapeCast S2x15360x1 (W6 m ρ c (Proc.devRef .tc main_v62_1)) shapeCasts_S2x512x30_S2x15360x1 := by
  show StableHlo.after hostOps1 (W6 m ρ c) (Proc.devRef .tc main_v70) = _
  generalize W6 m ρ c = W
  unfold hostOps1
  simp only [TRef.binary, TRef.nullary, TRef.reshape, TRef.ternary, TRef.unary, TRef.nary, TRef.toBuf, TRef.ofBuf, cast_eq]
  after_results_simp
  rfl

/-- The sequence as one column. -/
theorem W7_sequence : W7 m ρ c (Proc.devRef .tc main_v71) = shapeCast S2x512x1 (m ((c.tc : Thread nD τ).loc main_arg1)) shapeCasts_S2x512_S2x512x1 := by
  have h0 : W6 m ρ c (Proc.devRef .tc main_arg1) = (m ((c.tc : Thread nD τ).loc main_arg1)) := W6_args m ρ c main_arg1 (by decide)
  show StableHlo.after hostOps1 (W6 m ρ c) (Proc.devRef .tc main_v71) = _
  generalize W6 m ρ c = W at h0 ⊢
  unfold hostOps1
  simp only [TRef.binary, TRef.nullary, TRef.reshape, TRef.ternary, TRef.unary, TRef.nary, TRef.toBuf, TRef.ofBuf, cast_eq]
  after_results_simp
  rw [h0]
  rfl

/-- The high part of the table. -/
theorem W7_high : W7 m ρ c (Proc.devRef .tc main_v72) = truncf (F := Ideal) (s := S2x512x128) .bf16 (W5 m ρ c (Proc.devRef .tc main_v38)) bitsLt_bf16_f32 := by
  have h0 : W6 m ρ c (Proc.devRef .tc main_v38) = W5 m ρ c (Proc.devRef .tc main_v38) := W6_of m ρ c main_v38 (by decide +kernel)
  generalize W5 m ρ c (Proc.devRef .tc main_v38) = T at h0 ⊢
  show StableHlo.after hostOps1 (W6 m ρ c) (Proc.devRef .tc main_v72) = _
  generalize W6 m ρ c = W at h0 ⊢
  unfold hostOps1
  simp only [TRef.binary, TRef.nullary, TRef.reshape, TRef.ternary, TRef.unary, TRef.nary, TRef.toBuf, TRef.ofBuf, cast_eq]
  after_results_simp
  rw [h0]

/-- The low part of the table. -/
theorem W7_low : W7 m ρ c (Proc.devRef .tc main_v75) = truncf (F := Ideal) (s := S2x512x128) .bf16 (subf (W5 m ρ c (Proc.devRef .tc main_v38)) (extf .f32 (truncf .bf16 (W5 m ρ c (Proc.devRef .tc main_v38)) bitsLt_bf16_f32) bitsLt_bf16_f32)) bitsLt_bf16_f32 := by
  have h0 : W6 m ρ c (Proc.devRef .tc main_v38) = W5 m ρ c (Proc.devRef .tc main_v38) := W6_of m ρ c main_v38 (by decide +kernel)
  generalize W5 m ρ c (Proc.devRef .tc main_v38) = T at h0 ⊢
  show StableHlo.after hostOps1 (W6 m ρ c) (Proc.devRef .tc main_v75) = _
  generalize W6 m ρ c = W at h0 ⊢
  unfold hostOps1
  simp only [TRef.binary, TRef.nullary, TRef.reshape, TRef.ternary, TRef.unary, TRef.nary, TRef.toBuf, TRef.ofBuf, cast_eq]
  after_results_simp
  rw [h0]

/-- A row of the parameters. -/
theorem W7_scale : W7 m ρ c (Proc.devRef .tc main_v76) = shapeCast S1x256 (m ((c.tc : Thread nD τ).loc main_arg11)) shapeCasts_S256_S1x256 := by
  have h0 : W6 m ρ c (Proc.devRef .tc main_arg11) = (m ((c.tc : Thread nD τ).loc main_arg11)) := W6_args m ρ c main_arg11 (by decide)
  show StableHlo.after hostOps1 (W6 m ρ c) (Proc.devRef .tc main_v76) = _
  generalize W6 m ρ c = W at h0 ⊢
  unfold hostOps1
  simp only [TRef.binary, TRef.nullary, TRef.reshape, TRef.ternary, TRef.unary, TRef.nary, TRef.toBuf, TRef.ofBuf, cast_eq]
  after_results_simp
  rw [h0]
  rfl

/-- A row of the parameters. -/
theorem W7_shift : W7 m ρ c (Proc.devRef .tc main_v77) = shapeCast S1x256 (m ((c.tc : Thread nD τ).loc main_arg12)) shapeCasts_S256_S1x256 := by
  have h0 : W6 m ρ c (Proc.devRef .tc main_arg12) = (m ((c.tc : Thread nD τ).loc main_arg12)) := W6_args m ρ c main_arg12 (by decide)
  show StableHlo.after hostOps1 (W6 m ρ c) (Proc.devRef .tc main_v77) = _
  generalize W6 m ρ c = W at h0 ⊢
  unfold hostOps1
  simp only [TRef.binary, TRef.nullary, TRef.reshape, TRef.ternary, TRef.unary, TRef.nary, TRef.toBuf, TRef.ofBuf, cast_eq]
  after_results_simp
  rw [h0]
  rfl

/-- A row of the parameters. -/
theorem W7_edge_bias : W7 m ρ c (Proc.devRef .tc main_v78) = shapeCast S1x128 (m ((c.tc : Thread nD τ).loc main_arg14)) shapeCasts_S128_S1x128 := by
  have h0 : W6 m ρ c (Proc.devRef .tc main_arg14) = (m ((c.tc : Thread nD τ).loc main_arg14)) := W6_args m ρ c main_arg14 (by decide)
  show StableHlo.after hostOps1 (W6 m ρ c) (Proc.devRef .tc main_v78) = _
  generalize W6 m ρ c = W at h0 ⊢
  unfold hostOps1
  simp only [TRef.binary, TRef.nullary, TRef.reshape, TRef.ternary, TRef.unary, TRef.nary, TRef.toBuf, TRef.ofBuf, cast_eq]
  after_results_simp
  rw [h0]
  rfl

/-- A row of the parameters. -/
theorem W7_letter_bias : W7 m ρ c (Proc.devRef .tc main_v79) = shapeCast S1x128 (m ((c.tc : Thread nD τ).loc main_arg16)) shapeCasts_S128_S1x128 := by
  have h0 : W6 m ρ c (Proc.devRef .tc main_arg16) = (m ((c.tc : Thread nD τ).loc main_arg16)) := W6_args m ρ c main_arg16 (by decide)
  show StableHlo.after hostOps1 (W6 m ρ c) (Proc.devRef .tc main_v79) = _
  generalize W6 m ρ c = W at h0 ⊢
  unfold hostOps1
  simp only [TRef.binary, TRef.nullary, TRef.reshape, TRef.ternary, TRef.unary, TRef.nary, TRef.toBuf, TRef.ofBuf, cast_eq]
  after_results_simp
  rw [h0]
  rfl

/-- The edges, one row per neighbour. -/
theorem W9_edges : W9 m ρ c (Proc.devRef .tc main_v81) = shapeCast S2x512x30x128 (W8 m ρ c (Proc.devRef .tc main_v80_0)) shapeCasts_S2x15360x128_S2x512x30x128 := by
  show StableHlo.after hostOps2 (W8 m ρ c) (Proc.devRef .tc main_v81) = _
  generalize W8 m ρ c = W
  unfold hostOps2
  simp only [TRef.binary, TRef.nullary, TRef.reshape, TRef.ternary, TRef.unary, TRef.nary, TRef.toBuf, TRef.ofBuf, cast_eq]
  after_results_simp
  rfl

/-- The mask of earlier neighbours. -/
theorem W9_earlier : W9 m ρ c (Proc.devRef .tc main_v84) = cmpi .ne (shapeCast S2x512x30 (W8 m ρ c (Proc.devRef .tc main_v80_1)) shapeCasts_S2x15360x1_S2x512x30) (broadcastInDim S2x512x30 ![] bcast_S_S2x512x30 (constantI S_ 32 0#32)) := by
  show StableHlo.after hostOps2 (W8 m ρ c) (Proc.devRef .tc main_v84) = _
  generalize W8 m ρ c = W
  unfold hostOps2
  simp only [TRef.binary, TRef.nullary, TRef.reshape, TRef.ternary, TRef.unary, TRef.nary, TRef.toBuf, TRef.ofBuf, cast_eq]
  after_results_simp
  rfl

/-- The mask of near neighbours. -/
theorem W9_near : W9 m ρ c (Proc.devRef .tc main_v86) = cmpi .ne (W6 m ρ c (Proc.devRef .tc main_v62_2)) (broadcastInDim S2x512x30 ![] bcast_S_S2x512x30 (constantI S_ 32 0#32)) := by
  have h0 : W8 m ρ c (Proc.devRef .tc main_v62_2) = W6 m ρ c (Proc.devRef .tc main_v62_2) := (W8_of m ρ c main_v62_2 (by decide +kernel)).trans (W7_of m ρ c main_v62_2 (by decide))
  show StableHlo.after hostOps2 (W8 m ρ c) (Proc.devRef .tc main_v86) = _
  generalize W8 m ρ c = W at h0 ⊢
  unfold hostOps2
  simp only [TRef.binary, TRef.nullary, TRef.reshape, TRef.ternary, TRef.unary, TRef.nary, TRef.toBuf, TRef.ofBuf, cast_eq]
  after_results_simp
  rw [h0]

/-- The neighbours as returned. -/
theorem W9_neighbours : W9 m ρ c (Proc.devRef .tc main_v62_1) = W6 m ρ c (Proc.devRef .tc main_v62_1) :=
  (W9_of m ρ c main_v62_1 (by decide)).trans ((W8_of m ρ c main_v62_1 (by decide +kernel)).trans (W7_of m ρ c main_v62_1 (by decide)))

/-- The features of the letters as returned. -/
theorem W9_letters : W9 m ρ c (Proc.devRef .tc main_v80_2) = W8 m ρ c (Proc.devRef .tc main_v80_2) :=
  W9_of m ρ c main_v80_2 (by decide)

end Cert.Feat

end
-- ==== Proof.Feat.Edge.lean ====
/-
  The second region's body read at an index: the rows its matrices of zeros and ones select, the sixteen distances
  between the atoms of two residues, and the two masks and feature tables computed from them.
-/
module

public import proofs.«01_k».proof.Proof.Gen.KernelIdeal.Skeleton
public import proofs.«01_k».proof.Proof.Gen.KernelIdeal.Frame
public import proofs.«01_k».proof.Proof.Feat.Select
public import Idealize.ShloMosaic.Lib.Pointwise

@[expose] public section

set_option maxRecDepth 16384

noncomputable section

namespace Cert.Feat

open Idealize.ShloMosaic Idealize.ShloMosaic.TcCoe Idealize.SL.Sem
open Cert.KernelIdeal Cert.KernelIdeal.Gen

/-! ## Sums that select -/

/-- A sum of products whose left factors are one at `j` and zero elsewhere. -/
theorem sum_left {n : ℕ} (a b : Fin n → EReal) (j : Fin n) (h : ∀ k, a k = if k = j then 1 else 0) : ∑ k, a k * b k = b j := by
  rw [Finset.sum_eq_single j]
  · rw [h, if_pos rfl, one_mul]
  · intro k _ hk
    rw [h, if_neg hk, zero_mul]
  · intro hj
    exact absurd (Finset.mem_univ j) hj

/-- A sum of products whose right factors are one at `j` and zero elsewhere. -/
theorem sum_right {n : ℕ} (a b : Fin n → EReal) (j : Fin n) (h : ∀ k, b k = if k = j then 1 else 0) : ∑ k, a k * b k = a j := by
  rw [Finset.sum_congr rfl fun k _ => mul_comm (a k) (b k)]
  exact sum_left b a j h

/-- A sum over 48 columns of products whose right factors are one in the columns `p`, `16 + p` and `32 + p`. -/
theorem sum_three (a b : Fin 48 → EReal) (p : Fin 16) (h : ∀ k, b k = if k.val % 16 = p.val then 1 else 0) :
    ∑ k, a k * b k = ∑ e : Fin 3, a ⟨16 * e.val + p.val, by omega⟩ := by
  rw [← (finProdFinEquiv (m := 3) (n := 16)).sum_comp (fun k : Fin 48 => a k * b k), Fintype.sum_prod_type]
  refine Finset.sum_congr rfl fun e _ => ?_
  refine (sum_right (fun q : Fin 16 => a (finProdFinEquiv (e, q))) (fun q : Fin 16 => b (finProdFinEquiv (e, q))) p fun q => ?_).trans ?_
  · rw [h]
    refine if_congr ?_ rfl rfl
    show (q.val + 16 * e.val) % 16 = p.val ↔ q = p
    rw [Fin.ext_iff]
    omega
  · refine congrArg a (Fin.ext ?_)
    show p.val + 16 * e.val = 16 * e.val + p.val
    omega

/-! ## The specification -/

/-- The radial features of sixteen distances: for each, one bump per centre. -/
def bump (D cent : Fin 16 → EReal) (q : Fin 256) : EReal :=
  Ideal.exp (Ideal.div (-((D ⟨q.val / 16, by omega⟩ - cent ⟨q.val % 16, by omega⟩) * (D ⟨q.val / 16, by omega⟩ - cent ⟨q.val % 16, by omega⟩))) (Ideal.ofBits .f32 0x3FC80000#32))

/-- The mean of 256 features. -/
def mean (b : Fin 256 → EReal) : EReal := Ideal.div (∑ q, b q) (Ideal.ofBits .f32 0x43800000#32)

/-- The variance of 256 features. -/
def variance (b : Fin 256 → EReal) : EReal := Ideal.div (∑ q, (b q - mean b) * (b q - mean b)) (Ideal.ofBits .f32 0x43800000#32)

/-- The features normalised, scaled, shifted and projected. -/
def project (b g s : Fin 256 → EReal) (w : Fin 256 → EReal) (bias : EReal) : EReal :=
  (∑ q, (Ideal.div (b q - mean b) (Ideal.sqrt (variance b + Ideal.ofBits .f32 0x3727C5AC#32)) * g q + s q) * w q) + bias

/-- The distance of atom `p / 4` of one residue and atom `p % 4` of another. -/
def pairDist (P Q : Fin 4 → Fin 3 → EReal) (p : Fin 16) : EReal :=
  Ideal.sqrt ((∑ e : Fin 3, (P ⟨p.val / 4, by omega⟩ e - Q ⟨p.val % 4, by omega⟩ e) * (P ⟨p.val / 4, by omega⟩ e - Q ⟨p.val % 4, by omega⟩ e))
    + Ideal.ofBits .f32 0x3089705F#32)

/-! ## The rows selected -/

/-- A comparison of words, as a number: one where they agree, else zero. -/
theorem same_word (a b : ℕ) (ha : a < 2 ^ 32) (hb : b < 2 ^ 32) :
    FloatOps.sitofp (F := Ideal) FTy.f32 (BitVec.setWidth 32 (IntOp.cmpi CmpIPredicate.eq (BitVec.ofNat 32 a) (BitVec.ofNat 32 b))) = if b = a then (1 : EReal) else 0 := by
  rw [WordCmp.cmpi_eq_eq]
  by_cases h : b = a
  · rw [if_pos h, h, decide_eq_true rfl]
    show (((BitVec.setWidth 32 (BitVec.ofBool true)).toInt : ℝ) : EReal) = 1
    rw [show (BitVec.setWidth 32 (BitVec.ofBool true)).toInt = 1 from by decide]
    norm_num
  · have hne : BitVec.ofNat 32 a ≠ BitVec.ofNat 32 b := by
      intro e
      have := congrArg BitVec.toNat e
      rw [BitVec.toNat_ofNat, BitVec.toNat_ofNat, Nat.mod_eq_of_lt ha, Nat.mod_eq_of_lt hb] at this
      exact h this.symm
    rw [if_neg h, decide_eq_false hne]
    show (((BitVec.setWidth 32 (BitVec.ofBool false)).toInt : ℝ) : EReal) = 0
    rw [show (BitVec.setWidth 32 (BitVec.ofBool false)).toInt = 0 from by decide]
    norm_num

/-- The neighbour's row: the high part and the low part of the table's row there. -/
theorem other_row (v0 v2 : FVec Ideal S1x512x128 .bf16) (v4 : IVec S1x960x1 32) (r : Fin 960) (n : Fin 128) (j : Fin 512)
    (hj : v4 (ix3 0 r 0) = BitVec.ofNat 32 j.val) :
    k1_pay4 (F := Ideal) v0 v2 v4 (ix2 r n) = (v0 (ix3 0 j n) + v2 (ix3 0 j n) : EReal) := by
  have hs : ∀ x : Fin 512, FloatOps.sitofp (F := Ideal) FTy.f32 (BitVec.setWidth 32 (IntOp.cmpi CmpIPredicate.eq (v4 (ix3 0 r 0)) (BitVec.ofNat 32 x.val))) = if x = j then (1 : EReal) else 0 := by
    intro x
    rw [hj, same_word _ _ (by omega) (by omega)]
    exact if_congr (Fin.ext_iff).symm rfl rfl
  pointwise [k1_pay4]
  rw [sum_left _ (fun x => v0 (ix3 0 x n)) j hs, sum_left _ (fun x => v2 (ix3 0 x n)) j hs]

/-- The residue's own row. -/
theorem own_row (v15 : FVec Ideal S960x32 .f32) (v16 : FVec Ideal S1x32x128 .f32) (r : Fin 960) (n : Fin 128) (i : Fin 32)
    (h : ∀ x : Fin 32, v15 (ix2 r x) = if x = i then (1 : EReal) else 0) :
    k1_pay5 (F := Ideal) v15 v16 (ix2 r n) = v16 (ix3 0 i n) := by
  pointwise [k1_pay5]
  exact sum_left (fun x => v15 (ix2 r x)) (fun x => v16 (ix3 0 x n)) i h

/-- The sixteen distances of one row, from the coordinates of the residue and of its neighbour. -/
theorem reach (v0 v2 : FVec Ideal S1x512x128 .bf16) (v4 : IVec S1x960x1 32) (v15 : FVec Ideal S960x32 .f32) (v16 : FVec Ideal S1x32x128 .f32)
    (v19 v21 : FVec Ideal S128x48 .f32) (v25 : FVec Ideal S48x16 .f32) (r : Fin 960) (p : Fin 16) (P Q : Fin 4 → Fin 3 → EReal)
    (hP : ∀ (a : Fin 4) (e : Fin 3) (n : Fin 128), n.val = 3 * a.val + e.val → k1_pay5 (F := Ideal) v15 v16 (ix2 r n) = P a e)
    (hQ : ∀ (a : Fin 4) (e : Fin 3) (n : Fin 128), n.val = 3 * a.val + e.val → k1_pay4 (F := Ideal) v0 v2 v4 (ix2 r n) = (Q a e + (Q a e - Q a e) : EReal))
    (h19 : ∀ (n : Fin 128) (k : Fin 48), v19 (ix2 n k) = if n.val = (k.val % 16 / 4) * 3 + k.val / 16 then (1 : EReal) else 0)
    (h21 : ∀ (n : Fin 128) (k : Fin 48), v21 (ix2 n k) = if n.val = (k.val % 4) * 3 + k.val / 16 then (1 : EReal) else 0)
    (h25 : ∀ (k : Fin 48) (q : Fin 16), v25 (ix2 k q) = if k.val % 16 = q.val then (1 : EReal) else 0) :
    k1_pay6 (F := Ideal) v0 v2 v4 v15 v16 v19 v21 v25 (ix2 r p) = pairDist P Q p := by
  have s19 : ∀ k : Fin 48, ∑ n : Fin 128, k1_pay5 (F := Ideal) v15 v16 (ix2 r n) * v19 (ix2 n k) = P ⟨k.val % 16 / 4, by omega⟩ ⟨k.val / 16, by omega⟩ := by
    intro k
    refine (sum_right (fun n : Fin 128 => k1_pay5 (F := Ideal) v15 v16 (ix2 r n)) (fun n => v19 (ix2 n k)) ⟨(k.val % 16 / 4) * 3 + k.val / 16, by omega⟩ fun n => ?_).trans
      (hP ⟨k.val % 16 / 4, by omega⟩ ⟨k.val / 16, by omega⟩ _ (by show (k.val % 16 / 4) * 3 + k.val / 16 = 3 * (k.val % 16 / 4) + k.val / 16; omega))
    rw [h19]
    exact if_congr (Fin.ext_iff (a := n) (b := ⟨(k.val % 16 / 4) * 3 + k.val / 16, by omega⟩)).symm rfl rfl
  have s21 : ∀ k : Fin 48, ∑ n : Fin 128, k1_pay4 (F := Ideal) v0 v2 v4 (ix2 r n) * v21 (ix2 n k) =
      Q ⟨k.val % 4, by omega⟩ ⟨k.val / 16, by omega⟩ + (Q ⟨k.val % 4, by omega⟩ ⟨k.val / 16, by omega⟩ - Q ⟨k.val % 4, by omega⟩ ⟨k.val / 16, by omega⟩) := by
    intro k
    refine (sum_right (fun n : Fin 128 => k1_pay4 (F := Ideal) v0 v2 v4 (ix2 r n)) (fun n => v21 (ix2 n k)) ⟨(k.val % 4) * 3 + k.val / 16, by omega⟩ fun n => ?_).trans
      (hQ ⟨k.val % 4, by omega⟩ ⟨k.val / 16, by omega⟩ _ (by show (k.val % 4) * 3 + k.val / 16 = 3 * (k.val % 4) + k.val / 16; omega))
    rw [h21]
    exact if_congr (Fin.ext_iff (a := n) (b := ⟨(k.val % 4) * 3 + k.val / 16, by omega⟩)).symm rfl rfl
  pointwise [k1_pay6]
  unfold pairDist
  refine congrArg Ideal.sqrt (congrArg (· + Ideal.ofBits .f32 0x3089705F#32) ?_)
  simp only [s19, s21, ← sq_split]
  refine (sum_three (fun k : Fin 48 => (P ⟨k.val % 16 / 4, by omega⟩ ⟨k.val / 16, by omega⟩ - Q ⟨k.val % 4, by omega⟩ ⟨k.val / 16, by omega⟩) * (P ⟨k.val % 16 / 4, by omega⟩ ⟨k.val / 16, by omega⟩ - Q ⟨k.val % 4, by omega⟩ ⟨k.val / 16, by omega⟩))
    (fun k => v25 (ix2 k p)) p fun k => h25 k p).trans ?_
  refine Finset.sum_congr rfl fun e _ => ?_
  have e1 : (⟨(16 * e.val + p.val) % 16 / 4, by omega⟩ : Fin 4) = ⟨p.val / 4, by omega⟩ := Fin.ext (by show (16 * e.val + p.val) % 16 / 4 = p.val / 4; omega)
  have e2 : (⟨(16 * e.val + p.val) % 4, by omega⟩ : Fin 4) = ⟨p.val % 4, by omega⟩ := Fin.ext (by show (16 * e.val + p.val) % 4 = p.val % 4; omega)
  have e3 : (⟨(16 * e.val + p.val) / 16, by omega⟩ : Fin 3) = e := Fin.ext (by show (16 * e.val + p.val) / 16 = e.val; omega)
  simp only [e1, e2, e3]

/-- The edge features of one row, from its sixteen distances. -/
theorem edge_read (v29 : FVec Ideal S960x16 .f32) (v30 : FVec Ideal S16x256 .f32) (v32 v60 v64 : FVec Ideal S1x256 .f32) (v68 : FVec Ideal S256x128 .f32) (v70 : FVec Ideal S1x128 .f32) (r : Fin 960) (n : Fin 128)
    (D cent : Fin 16 → EReal) (hD : ∀ p, v29 (ix2 r p) = D p)
    (h30 : ∀ (p : Fin 16) (q : Fin 256), v30 (ix2 p q) = if q.val / 16 = p.val then (1 : EReal) else 0)
    (h32 : ∀ q : Fin 256, v32 (ix2 0 q) = cent ⟨q.val % 16, by omega⟩) :
    k1_pay1 (k1_pay7 (F := Ideal) v29 v30 v32 v60 v64 v68) v70 (ix3 0 r n) =
      project (bump D cent) (fun q => v60 (ix2 0 q)) (fun q => v64 (ix2 0 q)) (fun q => v68 (ix2 q n)) (v70 (ix2 0 n)) := by
  have s30 : ∀ q : Fin 256, ∑ p : Fin 16, v29 (ix2 r p) * v30 (ix2 p q) = D ⟨q.val / 16, by omega⟩ := by
    intro q
    refine (sum_right (fun p : Fin 16 => v29 (ix2 r p)) (fun p => v30 (ix2 p q)) ⟨q.val / 16, by omega⟩ fun p => ?_).trans (hD _)
    rw [h30]
    refine if_congr ?_ rfl rfl
    rw [Fin.ext_iff]
    exact eq_comm
  pointwise [k1_pay1, k1_pay7]
  simp only [s30, h32, zero_sub]
  rfl

/-- The mask of earlier neighbours. -/
theorem earlier_read (v14 v18 : FVec Ideal S960x128 .f32) (r : Fin 960) :
    k1_pay2 (F := Ideal) v14 v18 (ix3 0 r 0) = BitVec.setWidth 32 (BitVec.ofBool (decide (v14 (ix2 r 12) < v18 (ix2 r 12)))) := by
  pointwise [k1_pay2]

/-- The features of the letters: the row of weights the letter names, or none, plus the bias. -/
theorem letters_read (v84 : IVec S1x32x1 32) (v91 : FVec Ideal S128x128 .f32) (v94 : FVec Ideal S1x128 .f32) (r : Fin 32) (n : Fin 128) :
    k1_pay3 (F := Ideal) v84 v91 v94 (ix3 0 r n) =
      (∑ x : Fin 128, (if v84 (ix3 0 r 0) = BitVec.ofNat 32 x.val then (1 : EReal) else 0) * v91 (ix2 x n)) + v94 (ix2 0 n) := by
  have hs : ∀ x : Fin 128, FloatOps.sitofp (F := Ideal) FTy.f32 (BitVec.setWidth 32 (IntOp.cmpi CmpIPredicate.eq (v84 (ix3 0 r 0)) (BitVec.ofNat 32 x.val))) =
      if v84 (ix3 0 r 0) = BitVec.ofNat 32 x.val then (1 : EReal) else 0 := by
    intro x
    rw [WordCmp.cmpi_eq_eq]
    by_cases h : v84 (ix3 0 r 0) = BitVec.ofNat 32 x.val
    · rw [if_pos h, decide_eq_true h]
      show (((BitVec.setWidth 32 (BitVec.ofBool true)).toInt : ℝ) : EReal) = 1
      rw [show (BitVec.setWidth 32 (BitVec.ofBool true)).toInt = 1 from by decide]
      norm_num
    · rw [if_neg h, decide_eq_false h]
      show (((BitVec.setWidth 32 (BitVec.ofBool false)).toInt : ℝ) : EReal) = 0
      rw [show (BitVec.setWidth 32 (BitVec.ofBool false)).toInt = 0 from by decide]
      norm_num
  pointwise [k1_pay3]
  simp only [hs]

end Cert.Feat

end
-- ==== Proof.Feat.Tables.lean ====
/-
  The kernel's five constant matrices, entry by entry. Each is a matrix of zeros and ones.
-/
module

public import proofs.«01_k».proof.Proof.Gen.KernelIdeal.Skeleton
public import Idealize.ShloMosaic.Lib.Pointwise
public import Idealize.ShloMosaic.Lib.ValueIdx

@[expose] public section

set_option maxRecDepth 16384

noncomputable section

namespace Cert.Feat

open Idealize.ShloMosaic Idealize.ShloMosaic.TcCoe Idealize.SL.Sem
open Cert.KernelIdeal Cert.KernelIdeal.Gen

/-- The word of one where a condition holds, else the word of zero. -/
abbrev oneIf (p : Prop) [Decidable p] : BitVec 32 := if p then 0x3F800000#32 else 0x00000000#32

/-- Column `16 c + p` of the first spreading matrix selects coordinate `c` of atom `p / 4`. -/
theorem first_word : ∀ (n : Fin 128) (k : Fin 48), lit3 ⟨n.val * 48 + k.val, by omega⟩ = oneIf (n.val = (k.val % 16 / 4) * 3 + k.val / 16) := by
  decide +kernel

/-- Column `16 c + p` of the second spreading matrix selects coordinate `c` of atom `p % 4`. -/
theorem second_word : ∀ (n : Fin 128) (k : Fin 48), lit4 ⟨n.val * 48 + k.val, by omega⟩ = oneIf (n.val = (k.val % 4) * 3 + k.val / 16) := by
  decide +kernel

/-- Column `p` of the summing matrix adds the three coordinates of pair `p`. -/
theorem sum_word : ∀ (k : Fin 48) (p : Fin 16), lit5 ⟨k.val * 16 + p.val, by omega⟩ = oneIf (k.val % 16 = p.val) := by
  decide +kernel

/-- Column `q` of the widening matrix selects pair `q / 16`. -/
theorem widen_word : ∀ (p : Fin 16) (q : Fin 256), lit6 ⟨p.val * 256 + q.val, by omega⟩ = oneIf (q.val / 16 = p.val) := by
  decide +kernel

end Cert.Feat

end
-- ==== Proof.Feat.Matrices.lean ====
/-
  The constant matrices read at a row and a column: ones and zeros.
-/
module

public import proofs.«01_k».proof.Proof.Feat.Tables
public import Idealize.ShloMosaic.Lib.Pointwise

@[expose] public section

set_option maxRecDepth 16384

noncomputable section

namespace Cert.Feat

open Idealize.ShloMosaic Idealize.ShloMosaic.TcCoe Idealize.SL.Sem
open Cert.KernelIdeal Cert.KernelIdeal.Gen

/-- The words of one and zero as numbers. -/
theorem oneIf_value (p : Prop) [Decidable p] : FloatOps.ofBits (F := Ideal) .f32 (oneIf p) = if p then (1 : EReal) else 0 := by
  unfold oneIf
  by_cases h : p
  · rw [if_pos h, if_pos h]
    pointwise
  · rw [if_neg h, if_neg h]
    pointwise

/-- The first spreading matrix. -/
theorem first_at (n : Fin 128) (k : Fin 48) : FloatOps.ofBits (F := Ideal) .f32 (lit3 (S128x48.rowMajor (ix2 n k))) = if n.val = (k.val % 16 / 4) * 3 + k.val / 16 then (1 : EReal) else 0 := by
  have e : S128x48.rowMajor (ix2 n k) = (⟨n.val * 48 + k.val, by omega⟩ : Fin 6144) := Fin.ext (Shape.rowMajor_val_two _)
  rw [e, first_word, oneIf_value]

/-- The second spreading matrix. -/
theorem second_at (n : Fin 128) (k : Fin 48) : FloatOps.ofBits (F := Ideal) .f32 (lit4 (S128x48.rowMajor (ix2 n k))) = if n.val = (k.val % 4) * 3 + k.val / 16 then (1 : EReal) else 0 := by
  have e : S128x48.rowMajor (ix2 n k) = (⟨n.val * 48 + k.val, by omega⟩ : Fin 6144) := Fin.ext (Shape.rowMajor_val_two _)
  rw [e, second_word, oneIf_value]

/-- The summing matrix. -/
theorem sum_at (k : Fin 48) (p : Fin 16) : FloatOps.ofBits (F := Ideal) .f32 (lit5 (S48x16.rowMajor (ix2 k p))) = if k.val % 16 = p.val then (1 : EReal) else 0 := by
  have e : S48x16.rowMajor (ix2 k p) = (⟨k.val * 16 + p.val, by omega⟩ : Fin 768) := Fin.ext (Shape.rowMajor_val_two _)
  rw [e, sum_word, oneIf_value]

/-- The widening matrix. -/
theorem widen_at (p : Fin 16) (q : Fin 256) : FloatOps.ofBits (F := Ideal) .f32 (lit6 (S16x256.rowMajor (ix2 p q))) = if q.val / 16 = p.val then (1 : EReal) else 0 := by
  have e : S16x256.rowMajor (ix2 p q) = (⟨p.val * 256 + q.val, by omega⟩ : Fin 4096) := Fin.ext (Shape.rowMajor_val_two _)
  rw [e, widen_word, oneIf_value]

end Cert.Feat

end
-- ==== Proof.Feat.Spec.lean ====
/-
  The values of the second region's results: the edge features, the mask of earlier neighbours and the features of the
  letters, at an index; and the host's small changes of shape read at an index.
-/
module

public import proofs.«01_k».proof.Proof.Feat.Nearest
public import proofs.«01_k».proof.Proof.Feat.Exit
public import proofs.«01_k».proof.Proof.Feat.Edge
public import proofs.«01_k».proof.Proof.Feat.Matrices
public import proofs.«01_k».proof.Proof.Feat.Columns
public import Idealize.ShloMosaic.Lib.Routing.OpsSet
public import Idealize.ShloMosaic.Lib.Pipeline.ValueKit

@[expose] public section

set_option maxRecDepth 16384

noncomputable section

namespace Cert.Feat

open Idealize.ShloMosaic Idealize.ShloMosaic.TcCoe Idealize.SL.Sem
open Cert.KernelIdeal Cert.KernelIdeal.Gen
open Idealize.ShloMosaic.Pipeline (Dat)

/-! ## The specification -/

/-- The edge feature `n` of residue `i` and its neighbour at rank `k`. -/
def edgeAt (x : FVec Ideal S2x512x3x3 .f32) (g s : FVec Ideal S256 .f32) (w : FVec Ideal S256x128 .f32) (b : FVec Ideal S128 .f32) (cent : FVec Ideal S16 .f32)
    (z : Fin 2) (i : Fin 512) (k : Fin 30) (n : Fin 128) : EReal :=
  project (bump (pairDist (fun a e => atoms x a (ix3 z i e)) (fun a e => atoms x a (ix3 z (neighbour x z i k) e))) (fun p => cent (ix1 p)))
    (fun q => g (ix1 q)) (fun q => s (ix1 q)) (fun q => w (ix2 q n)) (b (ix1 n))

/-- Whether the neighbour at rank `k` of residue `i` is decoded before it. -/
def before (x : FVec Ideal S2x512x3x3 .f32) (o : IVec S2x512 32) (z : Fin 2) (i : Fin 512) (k : Fin 30) : Bool :=
  decide ((o (ix2 z (neighbour x z i k))).toInt < (o (ix2 z i)).toInt)

/-- Feature `n` of the letter of residue `i`. -/
def letterAt (q : IVec S2x512 32) (w : FVec Ideal S21x128 .f32) (b : FVec Ideal S128 .f32) (z : Fin 2) (i : Fin 512) (n : Fin 128) : EReal :=
  (∑ x : Fin 21, (if q (ix2 z i) = BitVec.ofNat 32 x.val then (1 : EReal) else 0) * w (ix2 x n)) + b (ix1 n)

/-- The edge features, one row per residue and rank. -/
def edges (x : FVec Ideal S2x512x3x3 .f32) (g s : FVec Ideal S256 .f32) (w : FVec Ideal S256x128 .f32) (b : FVec Ideal S128 .f32) (cent : FVec Ideal S16 .f32) :
    FVec Ideal S2x15360x128 .f32 :=
  fun y => edgeAt x g s w b cent (y 0) ⟨(y 1).val / 30, by have h : (y 1).val < 15360 := (y 1).isLt; omega⟩ ⟨(y 1).val % 30, by omega⟩ (y 2)

/-- The mask of earlier neighbours, one row per residue and rank, as words. -/
def earlier (x : FVec Ideal S2x512x3x3 .f32) (o : IVec S2x512 32) : IVec S2x15360x1 32 :=
  fun y => BitVec.setWidth 32 (BitVec.ofBool (before x o (y 0) ⟨(y 1).val / 30, by have h : (y 1).val < 15360 := (y 1).isLt; omega⟩ ⟨(y 1).val % 30, by omega⟩))

/-- The features of the letters. -/
def letters (q : IVec S2x512 32) (w : FVec Ideal S21x128 .f32) (b : FVec Ideal S128 .f32) : FVec Ideal S2x512x128 .f32 :=
  fun y => letterAt q w b (y 0) (y 1) (y 2)

/-! ## Shapes changed -/

/-- One row per residue and rank. -/
theorem flat_at (y : IVec S2x512x30 32) (z : Fin 2) (i : Fin 512) (k : Fin 30) (R : Fin 15360) (hR : R.val = i.val * 30 + k.val) :
    shapeCast S2x15360x1 y shapeCasts_S2x512x30_S2x15360x1 (ix3 z R 0) = y (ix3 z i k) := by
  pointwise
  rw [show (⟨R.val / 30, by omega⟩ : Fin 512) = i from Fin.ext (by show R.val / 30 = i.val; omega), show (⟨R.val % 30, by omega⟩ : Fin 30) = k from Fin.ext (by show R.val % 30 = k.val; omega)]

/-- The centre of feature `q`. -/
theorem center_at (x : FVec Ideal S16 .f32) (q : Fin 256) :
    shapeCast S1x256 (broadcastInDim S1x1x16x16 ![0, 1, 2, 3] bcast_S1x1x1x16_S1x1x16x16_0_1_2_3 (shapeCast S1x1x1x16 (shapeCast S1x16 x shapeCasts_S16_S1x16) shapeCasts_S1x16_S1x1x1x16)) shapeCasts_S1x1x16x16_S1x256 (ix2 0 q) = x (ix1 ⟨q.val % 16, by omega⟩) := by
  pointwise

/-- A column of one entry per residue, at an entry. -/
theorem column_at (x : IVec S2x512 32) (z : Fin 2) (i : Fin 512) : shapeCast S2x512x1 x shapeCasts_S2x512_S2x512x1 (ix3 z i 0) = x (ix2 z i) := by
  pointwise

/-- A row of 256 entries, at an entry. -/
theorem wide_at (x : FVec Ideal S256 .f32) (q : Fin 256) : shapeCast S1x256 x shapeCasts_S256_S1x256 (ix2 0 q) = x (ix1 q) := by
  pointwise

/-- A row of 128 entries, at an entry. -/
theorem lane_at (x : FVec Ideal S128 .f32) (n : Fin 128) : shapeCast S1x128 x shapeCasts_S128_S1x128 (ix2 0 n) = x (ix1 n) := by
  pointwise

/-- Every row beyond the letters is zero, the others are the weights. -/
theorem weights_at (w : FVec Ideal S21x128 .f32) (x n : Fin 128) :
    Host.scatter scatter_S128x128_S1_S21x128_01_n_0_0 (fun _ b => b) (broadcastInDim S128x128 ![] bcast_S_S128x128 (constant (F := Ideal) S_ .f32 0x00000000#32)) (start 0#32) w (ix2 x n) =
      if h : x.val < 21 then w (ix2 ⟨x.val, h⟩ n) else 0 := by
  have k0 : (0#32).toInt = 0 := by decide
  have lands : ∀ (x' : Fin 21) (n' : Fin 128),
      scatter_S128x128_S1_S21x128_01_n_0_0.resultIdx? (ix2 x' n' : S21x128.Idx) (start 0#32) = some (ix2 x n) ↔ x'.val = x.val ∧ n' = n := by
    intro x' n'
    rw [Routing.resultIdx?_eq_some]
    constructor
    · intro h
      have h0 : (0#32).toInt + (x'.val : ℤ) = (x.val : ℤ) := h 0
      have h1 : (0 : ℤ) + (n'.val : ℤ) = (n.val : ℤ) := h 1
      exact ⟨by omega, Fin.ext (by omega)⟩
    · rintro ⟨h0, rfl⟩ a
      match a with
      | ⟨0, _⟩ => show (0#32).toInt + (x'.val : ℤ) = (x.val : ℤ); omega
      | ⟨1, _⟩ => exact (zero_add (n'.val : ℤ))
  by_cases h : x.val < 21
  · rw [dif_pos h]
    refine Routing.scatter_set_hit _ _ (start 0#32) w (ix2 x n) _ (fun k hk => ?_) (ix2 ⟨x.val, h⟩ n) ((lands ⟨x.val, h⟩ n).2 ⟨rfl, rfl⟩)
    idx_vars k
    obtain ⟨h', rfl⟩ := (lands _ _).1 hk
    rw [show k0 = ⟨x.val, h⟩ from Fin.ext h']
  · rw [dif_neg h, Routing.scatter_set_miss _ _ (start 0#32) w (ix2 x n) (fun k hk => ?_)]
    · pointwise
    · idx_vars k
      obtain ⟨h', rfl⟩ := (lands _ _).1 hk
      have := k0.isLt
      omega

end Cert.Feat

end
-- ==== Proof.Feat.RepeatTable.lean ====
/-
  The matrix that repeats each residue of a block thirty times, entry by entry: zeros and ones.
-/
module

public import proofs.«01_k».proof.Proof.Gen.KernelIdeal.Skeleton
public import Idealize.ShloMosaic.Lib.Pointwise
public import Idealize.ShloMosaic.Lib.ValueIdx
public import proofs.«01_k».proof.Proof.Feat.Tables

@[expose] public section

set_option maxRecDepth 16384

noncomputable section

namespace Cert.Feat

open Idealize.ShloMosaic Idealize.ShloMosaic.TcCoe Idealize.SL.Sem
open Cert.KernelIdeal Cert.KernelIdeal.Gen

/-- The repeating matrix in rows 0 to 59. -/
theorem repeat_word_0 : ∀ (r : Fin 60) (t : Fin 32), lit2 ⟨(0 + r.val) * 32 + t.val, by omega⟩ = oneIf ((0 + r.val) / 30 = t.val) := by
  decide +kernel

/-- The repeating matrix in rows 60 to 119. -/
theorem repeat_word_1 : ∀ (r : Fin 60) (t : Fin 32), lit2 ⟨(60 + r.val) * 32 + t.val, by omega⟩ = oneIf ((60 + r.val) / 30 = t.val) := by
  decide +kernel

/-- The repeating matrix in rows 120 to 179. -/
theorem repeat_word_2 : ∀ (r : Fin 60) (t : Fin 32), lit2 ⟨(120 + r.val) * 32 + t.val, by omega⟩ = oneIf ((120 + r.val) / 30 = t.val) := by
  decide +kernel

/-- The repeating matrix in rows 180 to 239. -/
theorem repeat_word_3 : ∀ (r : Fin 60) (t : Fin 32), lit2 ⟨(180 + r.val) * 32 + t.val, by omega⟩ = oneIf ((180 + r.val) / 30 = t.val) := by
  decide +kernel

/-- The repeating matrix in rows 240 to 299. -/
theorem repeat_word_4 : ∀ (r : Fin 60) (t : Fin 32), lit2 ⟨(240 + r.val) * 32 + t.val, by omega⟩ = oneIf ((240 + r.val) / 30 = t.val) := by
  decide +kernel

/-- The repeating matrix in rows 300 to 359. -/
theorem repeat_word_5 : ∀ (r : Fin 60) (t : Fin 32), lit2 ⟨(300 + r.val) * 32 + t.val, by omega⟩ = oneIf ((300 + r.val) / 30 = t.val) := by
  decide +kernel

/-- The repeating matrix in rows 360 to 419. -/
theorem repeat_word_6 : ∀ (r : Fin 60) (t : Fin 32), lit2 ⟨(360 + r.val) * 32 + t.val, by omega⟩ = oneIf ((360 + r.val) / 30 = t.val) := by
  decide +kernel

/-- The repeating matrix in rows 420 to 479. -/
theorem repeat_word_7 : ∀ (r : Fin 60) (t : Fin 32), lit2 ⟨(420 + r.val) * 32 + t.val, by omega⟩ = oneIf ((420 + r.val) / 30 = t.val) := by
  decide +kernel

/-- The repeating matrix in rows 480 to 539. -/
theorem repeat_word_8 : ∀ (r : Fin 60) (t : Fin 32), lit2 ⟨(480 + r.val) * 32 + t.val, by omega⟩ = oneIf ((480 + r.val) / 30 = t.val) := by
  decide +kernel

/-- The repeating matrix in rows 540 to 599. -/
theorem repeat_word_9 : ∀ (r : Fin 60) (t : Fin 32), lit2 ⟨(540 + r.val) * 32 + t.val, by omega⟩ = oneIf ((540 + r.val) / 30 = t.val) := by
  decide +kernel

/-- The repeating matrix in rows 600 to 659. -/
theorem repeat_word_10 : ∀ (r : Fin 60) (t : Fin 32), lit2 ⟨(600 + r.val) * 32 + t.val, by omega⟩ = oneIf ((600 + r.val) / 30 = t.val) := by
  decide +kernel

/-- The repeating matrix in rows 660 to 719. -/
theorem repeat_word_11 : ∀ (r : Fin 60) (t : Fin 32), lit2 ⟨(660 + r.val) * 32 + t.val, by omega⟩ = oneIf ((660 + r.val) / 30 = t.val) := by
  decide +kernel

/-- The repeating matrix in rows 720 to 779. -/
theorem repeat_word_12 : ∀ (r : Fin 60) (t : Fin 32), lit2 ⟨(720 + r.val) * 32 + t.val, by omega⟩ = oneIf ((720 + r.val) / 30 = t.val) := by
  decide +kernel

/-- The repeating matrix in rows 780 to 839. -/
theorem repeat_word_13 : ∀ (r : Fin 60) (t : Fin 32), lit2 ⟨(780 + r.val) * 32 + t.val, by omega⟩ = oneIf ((780 + r.val) / 30 = t.val) := by
  decide +kernel

/-- The repeating matrix in rows 840 to 899. -/
theorem repeat_word_14 : ∀ (r : Fin 60) (t : Fin 32), lit2 ⟨(840 + r.val) * 32 + t.val, by omega⟩ = oneIf ((840 + r.val) / 30 = t.val) := by
  decide +kernel

/-- The repeating matrix in rows 900 to 959. -/
theorem repeat_word_15 : ∀ (r : Fin 60) (t : Fin 32), lit2 ⟨(900 + r.val) * 32 + t.val, by omega⟩ = oneIf ((900 + r.val) / 30 = t.val) := by
  decide +kernel

end Cert.Feat

end
-- ==== Proof.Feat.RepeatRow.lean ====
/-
  The repeating matrix read at a row and a column.
-/
module

public import proofs.«01_k».proof.Proof.Feat.Matrices
public import proofs.«01_k».proof.Proof.Feat.RepeatTable
public import Idealize.ShloMosaic.Lib.Pointwise

@[expose] public section

set_option maxRecDepth 16384

noncomputable section

namespace Cert.Feat

open Idealize.ShloMosaic Idealize.ShloMosaic.TcCoe Idealize.SL.Sem
open Cert.KernelIdeal Cert.KernelIdeal.Gen

/-- A row of the repeating matrix, from the statement about the sixty rows it is one of. -/
theorem repeat_row (r : Fin 960) (t : Fin 32) (b : ℕ) (s : Fin 60) (hr : r.val = b + s.val) (hl : (b + s.val) * 32 + t.val < 30720)
    (h : lit2 ⟨(b + s.val) * 32 + t.val, hl⟩ = oneIf ((b + s.val) / 30 = t.val)) : lit2 ⟨r.val * 32 + t.val, by omega⟩ = oneIf (r.val / 30 = t.val) := by
  rcases r with ⟨r, hr'⟩
  change r = b + s.val at hr
  subst hr
  exact h

/-- Row `r` of the repeating matrix selects residue `r / 30`. -/
theorem repeat_word (r : Fin 960) (t : Fin 32) : lit2 ⟨r.val * 32 + t.val, by omega⟩ = oneIf (r.val / 30 = t.val) := by
  have key : ∀ (b : ℕ), b ≤ r.val → r.val < b + 60 → ∃ s : Fin 60, r.val = b + s.val := fun b h1 h2 => ⟨⟨r.val - b, by omega⟩, by show r.val = b + (r.val - b); omega⟩
  rcases (by omega : (0 ≤ r.val ∧ r.val < 0 + 60) ∨ (60 ≤ r.val ∧ r.val < 60 + 60) ∨ (120 ≤ r.val ∧ r.val < 120 + 60) ∨ (180 ≤ r.val ∧ r.val < 180 + 60) ∨ (240 ≤ r.val ∧ r.val < 240 + 60) ∨ (300 ≤ r.val ∧ r.val < 300 + 60) ∨ (360 ≤ r.val ∧ r.val < 360 + 60) ∨ (420 ≤ r.val ∧ r.val < 420 + 60) ∨ (480 ≤ r.val ∧ r.val < 480 + 60) ∨ (540 ≤ r.val ∧ r.val < 540 + 60) ∨ (600 ≤ r.val ∧ r.val < 600 + 60) ∨ (660 ≤ r.val ∧ r.val < 660 + 60) ∨ (720 ≤ r.val ∧ r.val < 720 + 60) ∨ (780 ≤ r.val ∧ r.val < 780 + 60) ∨ (840 ≤ r.val ∧ r.val < 840 + 60) ∨ (900 ≤ r.val ∧ r.val < 900 + 60)) with ⟨h1, h2⟩ | ⟨h1, h2⟩ | ⟨h1, h2⟩ | ⟨h1, h2⟩ | ⟨h1, h2⟩ | ⟨h1, h2⟩ | ⟨h1, h2⟩ | ⟨h1, h2⟩ | ⟨h1, h2⟩ | ⟨h1, h2⟩ | ⟨h1, h2⟩ | ⟨h1, h2⟩ | ⟨h1, h2⟩ | ⟨h1, h2⟩ | ⟨h1, h2⟩ | ⟨h1, h2⟩
  · obtain ⟨s, hs⟩ := key 0 h1 h2
    exact repeat_row r t 0 s hs (by omega) (repeat_word_0 s t)
  · obtain ⟨s, hs⟩ := key 60 h1 h2
    exact repeat_row r t 60 s hs (by omega) (repeat_word_1 s t)
  · obtain ⟨s, hs⟩ := key 120 h1 h2
    exact repeat_row r t 120 s hs (by omega) (repeat_word_2 s t)
  · obtain ⟨s, hs⟩ := key 180 h1 h2
    exact repeat_row r t 180 s hs (by omega) (repeat_word_3 s t)
  · obtain ⟨s, hs⟩ := key 240 h1 h2
    exact repeat_row r t 240 s hs (by omega) (repeat_word_4 s t)
  · obtain ⟨s, hs⟩ := key 300 h1 h2
    exact repeat_row r t 300 s hs (by omega) (repeat_word_5 s t)
  · obtain ⟨s, hs⟩ := key 360 h1 h2
    exact repeat_row r t 360 s hs (by omega) (repeat_word_6 s t)
  · obtain ⟨s, hs⟩ := key 420 h1 h2
    exact repeat_row r t 420 s hs (by omega) (repeat_word_7 s t)
  · obtain ⟨s, hs⟩ := key 480 h1 h2
    exact repeat_row r t 480 s hs (by omega) (repeat_word_8 s t)
  · obtain ⟨s, hs⟩ := key 540 h1 h2
    exact repeat_row r t 540 s hs (by omega) (repeat_word_9 s t)
  · obtain ⟨s, hs⟩ := key 600 h1 h2
    exact repeat_row r t 600 s hs (by omega) (repeat_word_10 s t)
  · obtain ⟨s, hs⟩ := key 660 h1 h2
    exact repeat_row r t 660 s hs (by omega) (repeat_word_11 s t)
  · obtain ⟨s, hs⟩ := key 720 h1 h2
    exact repeat_row r t 720 s hs (by omega) (repeat_word_12 s t)
  · obtain ⟨s, hs⟩ := key 780 h1 h2
    exact repeat_row r t 780 s hs (by omega) (repeat_word_13 s t)
  · obtain ⟨s, hs⟩ := key 840 h1 h2
    exact repeat_row r t 840 s hs (by omega) (repeat_word_14 s t)
  · obtain ⟨s, hs⟩ := key 900 h1 h2
    exact repeat_row r t 900 s hs (by omega) (repeat_word_15 s t)

/-- The repeating matrix. -/
theorem repeat_at (r : Fin 960) (t : Fin 32) : FloatOps.ofBits (F := Ideal) .f32 (lit2 (S960x32.rowMajor (ix2 r t))) = if r.val / 30 = t.val then (1 : EReal) else 0 := by
  have e : S960x32.rowMajor (ix2 r t) = (⟨r.val * 32 + t.val, by omega⟩ : Fin 30720) := Fin.ext (Shape.rowMajor_val_two _)
  rw [e, repeat_word, oneIf_value]

end Cert.Feat

end
-- ==== Proof.Feat.SecondLeft.lean ====
/-
  The second region's three claimed results: the edge features, the mask of earlier neighbours, and the features of
  the letters.
-/
module

public import proofs.«01_k».proof.Proof.Feat.Second
public import proofs.«01_k».proof.Proof.Feat.Spec
public import proofs.«01_k».proof.Proof.Feat.RepeatRow

@[expose] public section

set_option maxRecDepth 16384

noncomputable section

namespace Cert.Feat

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg) (c : Dev nD)

/-- The row of the table a row of the block belongs to. -/
theorem own_at (t : Fin cfg1.N) (r : Fin 960) (n : Fin 128) (z : Fin 2) (i : Fin 512) (T : FVec Ideal S2x512x128 .f32)
    (hT : W5 m ρ c (Proc.devRef .tc main_v38) = T) (hz : z.val = t.val / 16) (hi : i.val = t.val % 16 * 32 + r.val / 30) :
    k1_pay5 (F := Ideal) (iblk1 (V7 m ρ) c 2 t) (iblk1 (V7 m ρ) c 1 t) (ix2 r n) = T (ix3 z i n) := by
  refine (own_row _ _ r n ⟨r.val / 30, by omega⟩ fun x => ?_).trans ?_
  · refine (at2 (V7 m ρ) c t r x).trans ((congrFun (W7_repeat_matrix m ρ c) (ix2 r x)).trans ((repeat_at r x).trans ?_))
    exact if_congr ((Fin.ext_iff (a := x) (b := ⟨r.val / 30, by omega⟩)).trans eq_comm).symm rfl rfl
  · exact (at1 (V7 m ρ) c t ⟨r.val / 30, by omega⟩ n z i hz hi).trans ((congrFun (W7_table m ρ c) _).trans (congrFun hT _))

/-- The row of the table of the neighbour a row of the block names, in its two parts. -/
theorem other_at (t : Fin cfg1.N) (r : Fin 960) (n : Fin 128) (z : Fin 2) (i : Fin 512) (k : Fin 30) (T : FVec Ideal S2x512x128 .f32)
    (hT : W5 m ρ c (Proc.devRef .tc main_v38) = T) (hz : z.val = t.val / 16) (hi : i.val = t.val % 16 * 32 + r.val / 30) (hk : k.val = r.val % 30)
    (x : FVec Ideal S2x512x3x3 .f32) (hx : m ((c.tc : Thread nD τ).loc main_arg0) = x) :
    k1_pay4 (F := Ideal) (iblk1 (V7 m ρ) c 4 t) (iblk1 (V7 m ρ) c 5 t) (iblk1 (V7 m ρ) c 0 t) (ix2 r n) =
      (T (ix3 z (neighbour x z i k) n) + (T (ix3 z (neighbour x z i k) n) - T (ix3 z (neighbour x z i k) n)) : EReal) := by
  have N : cfg1.N = 32 := rfl
  have ht : t.val < 32 := t.isLt
  obtain ⟨R, hR⟩ : ∃ R : Fin 15360, R.val = t.val % 16 * 960 + r.val := ⟨⟨t.val % 16 * 960 + r.val, by omega⟩, rfl⟩
  refine (other_row _ _ _ r n (neighbour x z i k) ?_).trans ?_
  · refine (at0 (V7 m ρ) c t r z R hz hR).trans ((congrFun (W7_neighbours m ρ c) (ix3 z R 0)).trans ?_)
    have h6 : W6 m ρ c (Proc.devRef .tc main_v62_1) = neighbours x := (W6_arr m ρ c 9).trans ((neighbours_left m ρ c).trans (by rw [hx]))
    rw [h6]
    exact flat_at (neighbours x) z i k R (by omega)
  · refine congrArg₂ (fun a b : EReal => a + b) ?_ ?_
    · refine (at4 (V7 m ρ) c t (neighbour x z i k) n z hz).trans ((congrFun (W7_high m ρ c) _).trans ?_)
      rw [hT]
      rfl
    · refine (at5 (V7 m ρ) c t (neighbour x z i k) n z hz).trans ((congrFun (W7_low m ρ c) _).trans ?_)
      rw [hT]
      rfl

/-- A finite number is not changed by adding its difference from itself. -/
theorem add_sub_same (a : ℤ) : (((a : ℝ) : EReal) + (((a : ℝ) : EReal) - ((a : ℝ) : EReal))) = ((a : ℝ) : EReal) := by
  rw [← EReal.coe_sub, ← EReal.coe_add, sub_self, add_zero]

/-- The edge features the second region leaves. -/
theorem edges_left : (dat1 (V7 m ρ) c).arrAt 17 cfg1.N =
    edges (m ((c.tc : Thread nD τ).loc main_arg0)) (m ((c.tc : Thread nD τ).loc main_arg11)) (m ((c.tc : Thread nD τ).loc main_arg12)) (m ((c.tc : Thread nD τ).loc main_arg13))
      (m ((c.tc : Thread nD τ).loc main_arg14)) (m ((c.tc : Thread nD τ).loc main_arg17)) := by
  refine (dat1 (V7 m ρ) c).arrAt_eq_of_covers 17 _ (by decide +kernel) fun t _ y => ?_
  blk_simp
  rw [after1_17]
  frame_out
  idx_vars y
  obtain rfl : y0 = 0 := Subsingleton.elim _ _
  have N : cfg1.N = 32 := rfl
  have ht : t.val < 32 := t.isLt
  have hy : y1.val < 960 := y1.isLt
  obtain ⟨z, hz⟩ : ∃ z : Fin 2, z.val = t.val / 16 := ⟨⟨t.val / 16, by omega⟩, rfl⟩
  obtain ⟨R, hR⟩ : ∃ R : Fin 15360, R.val = t.val % 16 * 960 + y1.val := ⟨⟨t.val % 16 * 960 + y1.val, by omega⟩, rfl⟩
  obtain ⟨i, hi⟩ : ∃ i : Fin 512, i.val = t.val % 16 * 32 + y1.val / 30 := ⟨⟨t.val % 16 * 32 + y1.val / 30, by omega⟩, rfl⟩
  obtain ⟨k, hk⟩ : ∃ k : Fin 30, k.val = y1.val % 30 := ⟨⟨y1.val % 30, by omega⟩, rfl⟩
  obtain ⟨u, hu⟩ := W5_table m ρ c
  have hown := fun n => own_at m ρ c t y1 n z i _ hu hz hi
  have hother := fun n => other_at m ρ c t y1 n z i k _ hu hz hi hk _ rfl
  have h10 : ∀ q, iblk1 (V7 m ρ) c 10 t (ix2 0 q) = m ((c.tc : Thread nD τ).loc main_arg17) (ix1 ⟨q.val % 16, by omega⟩) := fun q =>
    (at10 (V7 m ρ) c t q).trans ((congrFun (W7_centers m ρ c) _).trans (center_at _ q))
  have h11 : ∀ q, iblk1 (V7 m ρ) c 11 t (ix2 0 q) = m ((c.tc : Thread nD τ).loc main_arg11) (ix1 q) := fun q =>
    (at11 (V7 m ρ) c t q).trans ((congrFun (W7_scale m ρ c) _).trans (wide_at _ q))
  have h12 : ∀ q, iblk1 (V7 m ρ) c 12 t (ix2 0 q) = m ((c.tc : Thread nD τ).loc main_arg12) (ix1 q) := fun q =>
    (at12 (V7 m ρ) c t q).trans ((congrFun (W7_shift m ρ c) _).trans (wide_at _ q))
  have h13 : ∀ q n, iblk1 (V7 m ρ) c 13 t (ix2 q n) = m ((c.tc : Thread nD τ).loc main_arg13) (ix2 q n) := fun q n =>
    (at13 (V7 m ρ) c t q n).trans (congrFun (W7_args m ρ c main_arg13 (by decide)) _)
  have h14 : ∀ n, iblk1 (V7 m ρ) c 14 t (ix2 0 n) = m ((c.tc : Thread nD τ).loc main_arg14) (ix1 n) := fun n =>
    (at14 (V7 m ρ) c t n).trans ((congrFun (W7_edge_bias m ρ c) _).trans (lane_at _ n))
  have h6 : ∀ n k, iblk1 (V7 m ρ) c 6 t (ix2 n k) = if n.val = (k.val % 16 / 4) * 3 + k.val / 16 then (1 : EReal) else 0 := fun n k =>
    (at6 (V7 m ρ) c t n k).trans ((congrFun (W7_first_matrix m ρ c) _).trans (first_at n k))
  have h7 : ∀ n k, iblk1 (V7 m ρ) c 7 t (ix2 n k) = if n.val = (k.val % 4) * 3 + k.val / 16 then (1 : EReal) else 0 := fun n k =>
    (at7 (V7 m ρ) c t n k).trans ((congrFun (W7_second_matrix m ρ c) _).trans (second_at n k))
  have h8 : ∀ k p, iblk1 (V7 m ρ) c 8 t (ix2 k p) = if k.val % 16 = p.val then (1 : EReal) else 0 := fun k p =>
    (at8 (V7 m ρ) c t k p).trans ((congrFun (W7_sum_matrix m ρ c) _).trans (sum_at k p))
  have h9 : ∀ p q, iblk1 (V7 m ρ) c 9 t (ix2 p q) = if q.val / 16 = p.val then (1 : EReal) else 0 := fun p q =>
    (at9 (V7 m ρ) c t p q).trans ((congrFun (W7_widen_matrix m ρ c) _).trans (widen_at p q))
  generalize m ((c.tc : Thread nD τ).loc main_arg0) = x at hown hother ⊢
  generalize m ((c.tc : Thread nD τ).loc main_arg11) = g at h11 ⊢
  generalize m ((c.tc : Thread nD τ).loc main_arg12) = s at h12 ⊢
  generalize m ((c.tc : Thread nD τ).loc main_arg13) = w at h13 ⊢
  generalize m ((c.tc : Thread nD τ).loc main_arg14) = b at h14 ⊢
  generalize m ((c.tc : Thread nD τ).loc main_arg17) = cent at h10 ⊢
  refine Eq.trans ?_ (show edges x g s w b cent (ix3 z R y2) = _ by blk_ext [idx1 t])
  refine (edge_read _ _ _ _ _ _ _ y1 y2 (pairDist (fun a e => atoms x a (ix3 z i e)) (fun a e => atoms x a (ix3 z (neighbour x z i k) e))) (fun p => cent (ix1 p)) (fun p => ?_) h9 h10).trans ?_
  · refine reach _ _ _ _ _ _ _ _ y1 p _ _ (fun a e n hn => ?_) (fun a e n hn => ?_) h6 h7 h8
    · exact (hown n).trans (table_atom _ _ _ z i a e n hn)
    · rw [← table_atom x _ u z (neighbour x z i k) a e n hn]
      exact hother n
  · rw [h14, show (fun q => iblk1 (V7 m ρ) c 11 t (ix2 0 q)) = _ from funext h11, show (fun q => iblk1 (V7 m ρ) c 12 t (ix2 0 q)) = _ from funext h12,
      show (fun q => iblk1 (V7 m ρ) c 13 t (ix2 q y2)) = _ from funext fun q => h13 q y2]
    unfold edges edgeAt
    simp only [ix3_0, ix3_1, ix3_2]
    rw [show (⟨R.val / 30, by omega⟩ : Fin 512) = i from Fin.ext (by show R.val / 30 = i.val; omega), show (⟨R.val % 30, by omega⟩ : Fin 30) = k from Fin.ext (by show R.val % 30 = k.val; omega)]

/-- The mask of earlier neighbours the second region leaves. -/
theorem earlier_left : (dat1 (V7 m ρ) c).arrAt 18 cfg1.N = earlier (m ((c.tc : Thread nD τ).loc main_arg0)) (m ((c.tc : Thread nD τ).loc main_arg4)) := by
  refine (dat1 (V7 m ρ) c).arrAt_eq_of_covers 18 _ (by decide +kernel) fun t _ y => ?_
  blk_simp
  rw [after1_18]
  frame_out
  idx_vars y
  obtain rfl : y0 = 0 := Subsingleton.elim _ _
  obtain rfl : y2 = 0 := Subsingleton.elim _ _
  have N : cfg1.N = 32 := rfl
  have ht : t.val < 32 := t.isLt
  have hy : y1.val < 960 := y1.isLt
  obtain ⟨z, hz⟩ : ∃ z : Fin 2, z.val = t.val / 16 := ⟨⟨t.val / 16, by omega⟩, rfl⟩
  obtain ⟨R, hR⟩ : ∃ R : Fin 15360, R.val = t.val % 16 * 960 + y1.val := ⟨⟨t.val % 16 * 960 + y1.val, by omega⟩, rfl⟩
  obtain ⟨i, hi⟩ : ∃ i : Fin 512, i.val = t.val % 16 * 32 + y1.val / 30 := ⟨⟨t.val % 16 * 32 + y1.val / 30, by omega⟩, rfl⟩
  obtain ⟨k, hk⟩ : ∃ k : Fin 30, k.val = y1.val % 30 := ⟨⟨y1.val % 30, by omega⟩, rfl⟩
  obtain ⟨u, hu⟩ := W5_table m ρ c
  have hown := own_at m ρ c t y1 12 z i _ hu hz hi
  have hother := other_at m ρ c t y1 12 z i k _ hu hz hi hk _ rfl
  generalize m ((c.tc : Thread nD τ).loc main_arg0) = x at hown hother ⊢
  generalize m ((c.tc : Thread nD τ).loc main_arg4) = o at hown hother ⊢
  refine Eq.trans ?_ (show earlier x o (ix3 z R 0) = _ by blk_ext [idx1 t])
  refine (earlier_read _ _ y1).trans ?_
  rw [hown, hother, table_order x o u z i 12 rfl, table_order x o u z _ 12 rfl, add_sub_same]
  have e : earlier x o (ix3 z R 0) = BitVec.setWidth 32 (BitVec.ofBool (before x o z i k)) := by
    unfold earlier
    simp only [ix3_0, ix3_1, ix3_2]
    rw [show (⟨R.val / 30, by omega⟩ : Fin 512) = i from Fin.ext (by show R.val / 30 = i.val; omega), show (⟨R.val % 30, by omega⟩ : Fin 30) = k from Fin.ext (by show R.val % 30 = k.val; omega)]
  rw [e]
  unfold before
  simp only [EReal.coe_lt_coe_iff, Int.cast_lt]

/-- Of 128 rows of weights only the first 21 count. -/
theorem sum_rows (q : BitVec 32) (f : Fin 128 → EReal) (w : Fin 21 → EReal) (h : ∀ x : Fin 128, f x = if h : x.val < 21 then w ⟨x.val, h⟩ else 0) :
    ∑ x : Fin 128, (if q = BitVec.ofNat 32 x.val then (1 : EReal) else 0) * f x = ∑ x : Fin 21, (if q = BitVec.ofNat 32 x.val then (1 : EReal) else 0) * w x := by
  rw [Fin.sum_univ_add (a := 21) (b := 107) (fun x : Fin 128 => (if q = BitVec.ofNat 32 x.val then (1 : EReal) else 0) * f x)]
  rw [Finset.sum_eq_zero (f := fun x : Fin 107 => (if q = BitVec.ofNat 32 (Fin.natAdd 21 x).val then (1 : EReal) else 0) * f (Fin.natAdd 21 x)) (fun x _ => ?_), add_zero]
  · refine Finset.sum_congr rfl fun x _ => ?_
    rw [h, dif_pos (show (Fin.castAdd 107 x).val < 21 from x.isLt)]
    rfl
  · rw [h, dif_neg (show ¬ (Fin.natAdd 21 x).val < 21 by simp), mul_zero]

/-- The features of the letters the second region leaves. -/
theorem letters_left : (dat1 (V7 m ρ) c).arrAt 19 cfg1.N =
    letters (m ((c.tc : Thread nD τ).loc main_arg1)) (m ((c.tc : Thread nD τ).loc main_arg15)) (m ((c.tc : Thread nD τ).loc main_arg16)) := by
  refine (dat1 (V7 m ρ) c).arrAt_eq_of_covers 19 _ (by decide +kernel) fun t _ y => ?_
  blk_simp
  rw [after1_19]
  frame_out
  idx_vars y
  obtain rfl : y0 = 0 := Subsingleton.elim _ _
  have N : cfg1.N = 32 := rfl
  have ht : t.val < 32 := t.isLt
  have hy : y1.val < 32 := y1.isLt
  obtain ⟨z, hz⟩ : ∃ z : Fin 2, z.val = t.val / 16 := ⟨⟨t.val / 16, by omega⟩, rfl⟩
  obtain ⟨i, hi⟩ : ∃ i : Fin 512, i.val = t.val % 16 * 32 + y1.val := ⟨⟨t.val % 16 * 32 + y1.val, by omega⟩, rfl⟩
  have h3 : iblk1 (V7 m ρ) c 3 t (ix3 0 y1 0) = m ((c.tc : Thread nD τ).loc main_arg1) (ix2 z i) :=
    (at3 (V7 m ρ) c t y1 z i hz hi).trans ((congrFun (W7_sequence m ρ c) _).trans (column_at _ z i))
  have h15 : ∀ x n, iblk1 (V7 m ρ) c 15 t (ix2 x n) = _ := fun x n =>
    (at15 (V7 m ρ) c t x n).trans ((congrFun (W7_letters m ρ c) _).trans (weights_at _ x n))
  have h16 : ∀ n, iblk1 (V7 m ρ) c 16 t (ix2 0 n) = m ((c.tc : Thread nD τ).loc main_arg16) (ix1 n) := fun n =>
    (at16 (V7 m ρ) c t n).trans ((congrFun (W7_letter_bias m ρ c) _).trans (lane_at _ n))
  generalize m ((c.tc : Thread nD τ).loc main_arg1) = q at h3 ⊢
  generalize m ((c.tc : Thread nD τ).loc main_arg15) = w at h15 ⊢
  generalize m ((c.tc : Thread nD τ).loc main_arg16) = b at h16 ⊢
  refine Eq.trans ?_ (show letters q w b (ix3 z i y2) = _ by blk_ext [idx1 t])
  refine (letters_read _ _ _ y1 y2).trans ?_
  rw [h3, h16]
  refine congrArg (· + b (ix1 y2)) ?_
  exact sum_rows (q (ix2 z i)) (fun x => iblk1 (V7 m ρ) c 15 t (ix2 x y2)) (fun x => w (ix2 x y2)) fun x => h15 x y2

end Cert.Feat

end
-- ==== Proof.Feat.KernelValue.lean ====
/-
  The five results of the kernel as functions of its arguments.
-/
module

public import proofs.«01_k».proof.Proof.Feat.SecondLeft

@[expose] public section

set_option maxRecDepth 16384

noncomputable section

namespace Cert.Feat

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! ## The results -/

/-- The edge features, one entry per residue, rank and feature. -/
def edgeTable (x : FVec Ideal S2x512x3x3 .f32) (g s : FVec Ideal S256 .f32) (w : FVec Ideal S256x128 .f32) (b : FVec Ideal S128 .f32) (cent : FVec Ideal S16 .f32) :
    FVec Ideal S2x512x30x128 .f32 :=
  fun y => edgeAt x g s w b cent (y 0) (y 1) (y 2) (y 3)

/-- The mask of earlier neighbours. -/
def earlierTable (x : FVec Ideal S2x512x3x3 .f32) (o : IVec S2x512 32) : IVec S2x512x30 1 :=
  fun y => BitVec.ofBool (before x o (y 0) (y 1) (y 2))

open Classical in
/-- The mask of near neighbours. -/
def nearTable (x : FVec Ideal S2x512x3x3 .f32) : IVec S2x512x30 1 :=
  fun y => if keeps x (y 0) (y 1) (y 2) then 1#1 else 0#1

/-! ## The rows regrouped -/

/-- The edge features regrouped by residue and rank. -/
theorem edges_regrouped (x : FVec Ideal S2x512x3x3 .f32) (g s : FVec Ideal S256 .f32) (w : FVec Ideal S256x128 .f32) (b : FVec Ideal S128 .f32) (cent : FVec Ideal S16 .f32) :
    shapeCast S2x512x30x128 (edges x g s w b cent) shapeCasts_S2x15360x128_S2x512x30x128 = edgeTable x g s w b cent := by
  funext y
  idx_vars y
  refine (shapeCast_apply _ _ _ (ix3 y0 ⟨y1.val * 30 + y2.val, by have h1 : y1.val < 512 := y1.isLt; have h2 : y2.val < 30 := y2.isLt; omega⟩ y3 : S2x15360x128.Idx) ?_).trans ?_
  · rw [Shape.rowMajor_val_three, Shape.rowMajor_val_four]
    show (y0.val * 15360 + (y1.val * 30 + y2.val)) * 128 + y3.val = ((y0.val * 512 + y1.val) * 30 + y2.val) * 128 + y3.val
    omega
  · show edgeAt x g s w b cent y0 _ _ y3 = edgeAt x g s w b cent y0 y1 y2 y3
    exact congrArg₂ (fun a b' => edgeAt x g s w b cent y0 a b' y3) (Fin.ext (by show (y1.val * 30 + y2.val) / 30 = y1.val; have h2 : y2.val < 30 := y2.isLt; omega)) (Fin.ext (by show (y1.val * 30 + y2.val) % 30 = y2.val; have h2 : y2.val < 30 := y2.isLt; omega))

/-- A bit as a word is not zero where it is one. -/
theorem word_ne : ∀ c : Bool, IntOp.cmpi .ne (BitVec.setWidth 32 (BitVec.ofBool c)) 0#32 = BitVec.ofBool c := by
  decide

/-- The mask of earlier neighbours regrouped by residue and rank, as bits. -/
theorem earlier_regrouped (x : FVec Ideal S2x512x3x3 .f32) (o : IVec S2x512 32) :
    cmpi .ne (shapeCast S2x512x30 (earlier x o) shapeCasts_S2x15360x1_S2x512x30) (broadcastInDim S2x512x30 ![] bcast_S_S2x512x30 (constantI S_ 32 0#32)) = earlierTable x o := by
  funext y
  idx_vars y
  show IntOp.cmpi .ne (shapeCast S2x512x30 (earlier x o) shapeCasts_S2x15360x1_S2x512x30 (ix3 y0 y1 y2)) 0#32 = _
  rw [shapeCast_apply _ _ _ (ix3 y0 ⟨y1.val * 30 + y2.val, by have h1 : y1.val < 512 := y1.isLt; have h2 : y2.val < 30 := y2.isLt; omega⟩ 0 : S2x15360x1.Idx) (by
    rw [Shape.rowMajor_val_three, Shape.rowMajor_val_three]
    show (y0.val * 15360 + (y1.val * 30 + y2.val)) * 1 + 0 = (y0.val * 512 + y1.val) * 30 + y2.val
    omega)]
  refine (word_ne _).trans ?_
  show BitVec.ofBool (before x o y0 _ _) = BitVec.ofBool (before x o y0 y1 y2)
  exact congrArg₂ (fun a b' => BitVec.ofBool (before x o y0 a b')) (Fin.ext (by show (y1.val * 30 + y2.val) / 30 = y1.val; have h2 : y2.val < 30 := y2.isLt; omega)) (Fin.ext (by show (y1.val * 30 + y2.val) % 30 = y2.val; have h2 : y2.val < 30 := y2.isLt; omega))

/-- The mask of near neighbours as bits. -/
theorem nears_bits (x : FVec Ideal S2x512x3x3 .f32) :
    cmpi .ne (nears x) (broadcastInDim S2x512x30 ![] bcast_S_S2x512x30 (constantI S_ 32 0#32)) = nearTable x := by
  funext y
  idx_vars y
  show IntOp.cmpi .ne (nears x (ix3 y0 y1 y2)) 0#32 = nearTable x (ix3 y0 y1 y2)
  by_cases h : keeps x y0 y1 y2
  · rw [show nears x (ix3 y0 y1 y2) = 1#32 from if_pos h, show nearTable x (ix3 y0 y1 y2) = 1#1 from if_pos h]
    decide
  · rw [show nears x (ix3 y0 y1 y2) = 0#32 from if_neg h, show nearTable x (ix3 y0 y1 y2) = 0#1 from if_neg h]
    decide

/-! ## The run -/

section Run

variable (m : (ℓ : Loc nD τ sig) → Buf (Elt Ideal) ℓ) (ρ : Dev nD → PrngReg) (c : Dev nD)

/-- The edge features that the kernel leaves are the table of edge rows. -/
theorem W9_edges_value : W9 m ρ c (Proc.devRef .tc main_v81) =
    edgeTable (m ((c.tc : Thread nD τ).loc main_arg0)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg17)) := by
  have h : W8 m ρ c (Proc.devRef .tc main_v80_0) = edges _ _ _ _ _ _ := (W8_arr m ρ c 17).trans (edges_left m ρ c)
  rw [W9_edges, h]
  exact edges_regrouped _ _ _ _ _ _

/-- The order bits that the kernel leaves are the table of comparisons of the decoding order. -/
theorem W9_earlier_value : W9 m ρ c (Proc.devRef .tc main_v84) = earlierTable (m ((c.tc : Thread nD τ).loc main_arg0)) (m ((c.tc : Thread nD τ).loc main_arg4)) := by
  have h : W8 m ρ c (Proc.devRef .tc main_v80_1) = earlier _ _ := (W8_arr m ρ c 18).trans (earlier_left m ρ c)
  rw [W9_earlier, h]
  exact earlier_regrouped _ _

/-- The edge mask that the kernel leaves is the table of the comparisons of the distances with nought and twelve. -/
theorem W9_near_value : W9 m ρ c (Proc.devRef .tc main_v86) = nearTable (m ((c.tc : Thread nD τ).loc main_arg0)) := by
  have h : W6 m ρ c (Proc.devRef .tc main_v62_2) = nears _ := (W6_arr m ρ c 10).trans (nears_left m ρ c)
  rw [W9_near, h]
  exact nears_bits _

/-- The neighbour indices that the kernel leaves are the table of neighbours. -/
theorem W9_neighbours_value : W9 m ρ c (Proc.devRef .tc main_v62_1) = neighbours (m ((c.tc : Thread nD τ).loc main_arg0)) :=
  (W9_neighbours m ρ c).trans ((W6_arr m ρ c 9).trans (neighbours_left m ρ c))

/-- The letter features that the kernel leaves are the table of the rows of the letter weights. -/
theorem W9_letters_value : W9 m ρ c (Proc.devRef .tc main_v80_2) = letters (m ((c.tc : Thread nD τ).loc main_arg1)) (m ((c.tc : Thread nD τ).loc main_arg15)) (m ((c.tc : Thread nD τ).loc main_arg16)) :=
  (W9_letters m ρ c).trans ((W8_arr m ρ c 19).trans (letters_left m ρ c))

end Run

end Cert.Feat

end
-- ==== Proof.Feat.KernelRun.lean ====
/-
  The run of the kernel over the extended reals: it terminates with the five results at their functions of the arguments.
-/
module

public import proofs.«01_k».proof.Proof.Feat.KernelValue

@[expose] public section

set_option maxRecDepth 16384

noncomputable section

namespace Cert.Feat

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

local notation "𝕄" => MT nD τ sig Unit (Elt Ideal) ℕ (UR sig nD τ) ℕ

set_option backward.isDefEq.respectTransparency.types false in
set_option maxHeartbeats 1600000 in
/-- Every execution of the kernel terminates, and ends with the edge features, the neighbours, the features of the letters,
    the mask of near neighbours and the mask of earlier neighbours of its arguments, which are unchanged. -/
theorem kernel_run : θ_run defs (onTc (τ := τ) (main (F := Ideal))) ⟨m, fun _ => 0, ρ⟩ (fun r => ∀ c : Dev nD,
      r.2.mem ((c.tc : Thread nD τ).loc main_v81) = edgeTable (m ((c.tc : Thread nD τ).loc main_arg0)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg17))
      ∧ r.2.mem ((c.tc : Thread nD τ).loc main_v62_1) = neighbours (m ((c.tc : Thread nD τ).loc main_arg0))
      ∧ r.2.mem ((c.tc : Thread nD τ).loc main_v80_2) = letters (m ((c.tc : Thread nD τ).loc main_arg1)) (m ((c.tc : Thread nD τ).loc main_arg15)) (m ((c.tc : Thread nD τ).loc main_arg16))
      ∧ r.2.mem ((c.tc : Thread nD τ).loc main_v86) = nearTable (m ((c.tc : Thread nD τ).loc main_arg0))
      ∧ r.2.mem ((c.tc : Thread nD τ).loc main_v84) = earlierTable (m ((c.tc : Thread nD τ).loc main_arg0)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => fun c =>
      ⟨(h c _ (mem_uc main_v81 (by decide))).trans (W9_edges_value m ρ c),
       (h c _ (mem_uc main_v62_1 (by decide))).trans (W9_neighbours_value m ρ c),
       (h c _ (mem_uc main_v80_2 (by decide))).trans (W9_letters_value m ρ c),
       (h c _ (mem_uc main_v86 (by decide))).trans (W9_near_value m ρ c),
       (h c _ (mem_uc main_v84 (by decide))).trans (W9_earlier_value m ρ c),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c),
       (h c _ (mem_uc main_arg17 (by decide))).trans (W9_main_arg17 m ρ c)⟩)

end Cert.Feat

end
-- ==== Proof.Feat.RefAtoms.lean ====
/-
  The reference's atoms and distances: the same backbone atoms, side-chain position and matrix of distances as the
  kernel's.
-/
module

public import proofs.«01_k».proof.Proof.Gen.ReferenceIdeal.Read
public import proofs.«01_k».proof.Proof.Feat.Spec
public import Idealize.ShloMosaic.Lib.Pointwise

@[expose] public section

set_option maxRecDepth 16384

noncomputable section

namespace Cert.Feat

open Idealize.ShloMosaic Idealize.ShloMosaic.TcCoe Idealize.SL.Sem Idealize.ShloMosaic.StableHlo
open Cert.ReferenceIdeal Cert.ReferenceIdeal.Gen Cert.ReferenceIdeal.Read

variable (x : FVec Ideal S2x512x3x3 .f32)

/-- The reference's nitrogens. -/
theorem ref_nitrogen : val_main_v1 (F := Ideal) x = nitrogen x := rfl

/-- The reference's alpha carbons. -/
theorem ref_alpha : val_main_v3 (F := Ideal) x = alpha x := rfl

/-- The reference's carbonyl carbons. -/
theorem ref_carbonyl : val_main_v5 (F := Ideal) x = carbonyl x := rfl

/-- The reference's cross product. -/
theorem ref_cross : val_main_v44 (F := Ideal) x = cross (val_main_v6 (F := Ideal) x) (val_main_v7 (F := Ideal) x) := by
  funext y
  idx_vars y
  match y2 with
  | ⟨0, _⟩ =>
    show val_main_v44 (F := Ideal) x (ix3 y0 y1 0) = cross _ _ (ix3 y0 y1 0)
    unfold val_main_v44 val_main_v41 val_main_v42 val_main_v43 val_main_v18 val_main_v29 val_main_v40 val_main_v12 val_main_v17 val_main_v23 val_main_v28 val_main_v34 val_main_v39
      val_main_v9 val_main_v11 val_main_v14 val_main_v16 val_main_v20 val_main_v22 val_main_v25 val_main_v27 val_main_v31 val_main_v33 val_main_v36 val_main_v38
      val_main_v8 val_main_v10 val_main_v13 val_main_v15 val_main_v19 val_main_v21 val_main_v24 val_main_v26 val_main_v30 val_main_v32 val_main_v35 val_main_v37
    generalize val_main_v6 (F := Ideal) x = b
    generalize val_main_v7 (F := Ideal) x = d
    pointwise [cross]
  | ⟨1, _⟩ =>
    show val_main_v44 (F := Ideal) x (ix3 y0 y1 1) = cross _ _ (ix3 y0 y1 1)
    unfold val_main_v44 val_main_v41 val_main_v42 val_main_v43 val_main_v18 val_main_v29 val_main_v40 val_main_v12 val_main_v17 val_main_v23 val_main_v28 val_main_v34 val_main_v39
      val_main_v9 val_main_v11 val_main_v14 val_main_v16 val_main_v20 val_main_v22 val_main_v25 val_main_v27 val_main_v31 val_main_v33 val_main_v36 val_main_v38
      val_main_v8 val_main_v10 val_main_v13 val_main_v15 val_main_v19 val_main_v21 val_main_v24 val_main_v26 val_main_v30 val_main_v32 val_main_v35 val_main_v37
    generalize val_main_v6 (F := Ideal) x = b
    generalize val_main_v7 (F := Ideal) x = d
    pointwise [cross]
  | ⟨2, _⟩ =>
    show val_main_v44 (F := Ideal) x (ix3 y0 y1 2) = cross _ _ (ix3 y0 y1 2)
    unfold val_main_v44 val_main_v41 val_main_v42 val_main_v43 val_main_v18 val_main_v29 val_main_v40 val_main_v12 val_main_v17 val_main_v23 val_main_v28 val_main_v34 val_main_v39
      val_main_v9 val_main_v11 val_main_v14 val_main_v16 val_main_v20 val_main_v22 val_main_v25 val_main_v27 val_main_v31 val_main_v33 val_main_v36 val_main_v38
      val_main_v8 val_main_v10 val_main_v13 val_main_v15 val_main_v19 val_main_v21 val_main_v24 val_main_v26 val_main_v30 val_main_v32 val_main_v35 val_main_v37
    generalize val_main_v6 (F := Ideal) x = b
    generalize val_main_v7 (F := Ideal) x = d
    pointwise [cross]

/-- The reference's side-chain position. -/
theorem ref_beta : val_main_v53 (F := Ideal) x = beta x := by
  unfold val_main_v53 val_main_v52 val_main_v49 val_main_v51 val_main_v46 val_main_v48
  rw [ref_cross]
  rfl

/-- The reference's four atoms of a residue. -/
theorem ref_atoms (z : Fin 2) (i : Fin 512) (a : Fin 4) (e : Fin 3) : val_main_v63 (F := Ideal) x (ix4 z i a e) = atoms x a (ix3 z i e) := by
  unfold val_main_v63 val_main_v62 val_main_v61
  rw [ref_beta, ref_alpha]
  match a with
  | ⟨0, _⟩ =>
    show concatenate _ _ _ _ (ix4 z i 0 e) = nitrogen x (ix3 z i e)
    pointwise [nitrogen]
  | ⟨1, _⟩ =>
    show concatenate _ _ _ _ (ix4 z i 1 e) = alpha x (ix3 z i e)
    pointwise [alpha]
  | ⟨2, _⟩ =>
    show concatenate _ _ _ _ (ix4 z i 2 e) = carbonyl x (ix3 z i e)
    pointwise [carbonyl]
  | ⟨3, _⟩ =>
    show concatenate _ _ _ _ (ix4 z i 3 e) = _
    pointwise
    rfl

/-- The reference's squared distances. -/
theorem ref_gap (z : Fin 2) (i j : Fin 512) : val_main_v60 (F := Ideal) x (ix3 z i j) = gap x z i j := by
  unfold val_main_v60 val_main_v59 val_main_v58 val_main_v57 val_main_v56 val_main_v55 val_main_v54 val_main_cst_2
  rw [ref_alpha]
  unfold gap
  generalize alpha x = a
  pointwise

end Cert.Feat

end
-- ==== Proof.Feat.RefNear.lean ====
/-
  The reference's neighbours: its ranking of the distances and its mask of near neighbours are the kernel's, where no
  residue is masked.
-/
module

public import proofs.«01_k».proof.Proof.Feat.RefAtoms

@[expose] public section

set_option maxRecDepth 16384

noncomputable section

namespace Cert.Feat

open Idealize.ShloMosaic Idealize.ShloMosaic.TcCoe Idealize.SL.Sem Idealize.ShloMosaic.StableHlo
open Cert.ReferenceIdeal Cert.ReferenceIdeal.Gen Cert.ReferenceIdeal.Read

/-! ## The greatest of a row of negated numbers -/

/-- The positions of the greatest of negated numbers are those of the smallest numbers. -/
theorem sorted_neg (f : Fin 512 → EReal) :
    sortedFrom (fun k k' : Fin 512 => FloatOps.cmpfTotal (F := Ideal) (φ := .f32) .gt (-(f k) : EReal) (-(f k') : EReal) == 1#1) = order f := by
  unfold order
  congr 1
  funext k k'
  show (BitVec.ofBool (decide (-(f k') < -(f k))) == 1#1) = decide (f k < f k')
  by_cases h : f k < f k'
  · rw [decide_eq_true h, decide_eq_true (EReal.neg_lt_neg_iff.2 h)]
    rfl
  · rw [decide_eq_false h, decide_eq_false (fun h' => h (EReal.neg_lt_neg_iff.1 h'))]
    rfl

/-- A row's element, by its place in the row. -/
theorem along_last (z : Fin 2) (i j k : Fin 512) : (ix3 z i k : S2x512x512.Idx).along 2 j = ix3 z i j := by
  funext a
  match a with
  | ⟨0, _⟩ => rfl
  | ⟨1, _⟩ => rfl
  | ⟨2, _⟩ => rfl

/-- The position a row's sort takes its element `k` from. -/
def taken (X : FVec Ideal S2x512x512 .f32) (z : Fin 2) (i k : Fin 512) : Fin 512 :=
  sortedFrom (fun a b : Fin 512 => FloatOps.cmpfTotal (F := Ideal) (φ := .f32) .gt (X (ix3 z i a)) (X (ix3 z i b)) == 1#1) k

/-- A sort of two tables by rows, read at an entry. -/
theorem sort_rows (X : FVec Ideal S2x512x512 .f32) (Y : IVec S2x512x512 32) (z : Fin 2) (i k : Fin 512) :
    (Host.sort2 S2x512x512 2 (fun l r => FloatOps.cmpfTotal (F := Ideal) (φ := .f32) .gt l.1 r.1) X Y).1 (ix3 z i k) = X (ix3 z i (taken X z i k)) ∧
    (Host.sort2 S2x512x512 2 (fun l r => FloatOps.cmpfTotal (F := Ideal) (φ := .f32) .gt l.1 r.1) X Y).2 (ix3 z i k) = Y (ix3 z i (taken X z i k)) := by
  have e : (fun a b : Fin 512 => FloatOps.cmpfTotal (F := Ideal) (φ := .f32) .gt (X ((ix3 z i k : S2x512x512.Idx).along 2 a)) (X ((ix3 z i k : S2x512x512.Idx).along 2 b)) == 1#1) =
      fun a b : Fin 512 => FloatOps.cmpfTotal (F := Ideal) (φ := .f32) .gt (X (ix3 z i a)) (X (ix3 z i b)) == 1#1 := by
    funext a b
    rw [along_last z i a k, along_last z i b k]
  unfold Host.sort2
  rw [dif_pos (by decide)]
  constructor
  · refine Eq.trans ?_ (congrArg X ((along_last z i (taken X z i k) k).symm.trans rfl)).symm
    unfold taken
    rw [← e]
    rfl
  · refine Eq.trans ?_ (congrArg Y ((along_last z i (taken X z i k) k).symm.trans rfl)).symm
    unfold taken
    rw [← e]
    rfl

/-- The first thirty columns of a table. -/
theorem first_columns {α : Type} (X : S2x512x512.Idx → α) (z : Fin 2) (i : Fin 512) (k : Fin 30) :
    extractStridedSlice S2x512x30 (fun _ => 0) X sliceFits_S2x512x512_S2x512x30 (ix3 z i k) = X (ix3 z i (k.castLE (by omega) : Fin 512)) :=
  extractStridedSlice_apply _ _ _ _ (ix3 z i (k.castLE (by omega) : Fin 512)) (fun a => by
    match a with
    | ⟨0, _⟩ => exact (Nat.zero_add z.val).symm
    | ⟨1, _⟩ => exact (Nat.zero_add i.val).symm
    | ⟨2, _⟩ => exact (Nat.zero_add k.val).symm)

/-- Where a row of negated numbers is sorted from. -/
theorem taken_neg (D : FVec Ideal S2x512x512 .f32) (z : Fin 2) (i k : Fin 512) : taken (Host.negf D) z i k = order (fun j => D (ix3 z i j)) k := by
  rw [← sorted_neg]
  rfl

/-- The positions of the thirty greatest. -/
theorem top_position (D : FVec Ideal S2x512x512 .f32) (z : Fin 2) (i : Fin 512) (k : Fin 30) :
    (Host.topK S2x512x30 2 (FloatOps.cmpfTotal (F := Ideal) (φ := .f32) .gt) (Host.negf D) sliceFits_S2x512x512_S2x512x30).2 (ix3 z i k) =
      BitVec.ofNat 32 (order (fun j => D (ix3 z i j)) (k.castLE (by omega))).val := by
  unfold Host.topK
  dsimp only
  refine (first_columns _ z i k).trans ((sort_rows _ _ z i _).2.trans ?_)
  rw [taken_neg]
  rfl

/-- The thirty greatest themselves. -/
theorem top_value (D : FVec Ideal S2x512x512 .f32) (z : Fin 2) (i : Fin 512) (k : Fin 30) :
    (Host.topK S2x512x30 2 (FloatOps.cmpfTotal (F := Ideal) (φ := .f32) .gt) (Host.negf D) sliceFits_S2x512x512_S2x512x30).1 (ix3 z i k) =
      (-(D (ix3 z i (order (fun j => D (ix3 z i j)) (k.castLE (by omega))))) : EReal) := by
  unfold Host.topK
  dsimp only
  refine (first_columns _ z i k).trans ((sort_rows _ _ z i _).1.trans ?_)
  rw [taken_neg]
  rfl

/-! ## Words below 512 -/

/-- A word below 512 is not negative and at most 511. -/
theorem small_word : ∀ j : Fin 512, IntOp.cmpi .slt (BitVec.ofNat 32 j.val) 0#32 = 0#1 ∧ IntOp.cmpi .sge (BitVec.ofNat 32 j.val) 0#32 = 1#1 ∧
    IntOp.cmpi .sle (BitVec.ofNat 32 j.val) 511#32 = 1#1 ∧ (BitVec.ofNat 32 j.val).toInt = (j.val : ℤ) := by
  decide +kernel

/-- A conjunction of ones is one. -/
theorem all_ones (x : IVec S2x512x30x1 1) (h : ∀ y, x y = 1#1) (j : S2x512x30.Idx) :
    Host.reduce IntOp.andi x (constantI S_ 1 1#1) reducesTo_S2x512x30x1_S2x512x30_d3 h_S_ j = 1#1 := by
  unfold Host.reduce
  have key : ∀ (l : List (Fin S2x512x30x1.numel)), l.foldl (fun r n => IntOp.andi r (x (S2x512x30x1.rowMajor.symm n))) (1#1) = 1#1 := by
    intro l
    induction l with
    | nil => rfl
    | cons a l ih =>
      rw [List.foldl_cons, h, show IntOp.andi 1#1 1#1 = 1#1 from by decide]
      exact ih
  exact key _

/-! ## The neighbours -/

section Near

variable (x : FVec Ideal S2x512x3x3 .f32) (b : IVec S2x512 1) (hb : ∀ y, b y = 0#1)

include hb

/-- The reference's distances. -/
theorem ref_dist (z : Fin 2) (i j : Fin 512) : val_main_v69 (F := Ideal) x b (ix3 z i j) = dist x z i j := by
  have h := ref_gap x z i j
  unfold val_main_v69 val_main_v68 val_main_call0_v1 val_main_call0_v0 val_main_cst_3 val_main_v67 val_main_v66 val_main_v65 val_main_v64 dist
  generalize gap x z i j = g at h ⊢
  generalize val_main_v60 (F := Ideal) x = G at h ⊢
  pointwise
  rw [h, hb, show FloatOps.uitofp (F := Ideal) FTy.f32 (0#1) = (0 : EReal) from by show (((BitVec.toNat 0#1 : ℝ)) : EReal) = 0; simp]
  rw [← top_word]
  rfl

/-- The reference ranks the residues as the kernel does. -/
theorem ref_position (z : Fin 2) (i : Fin 512) (k : Fin 30) : val_main_indices (F := Ideal) x b (ix3 z i k) = BitVec.ofNat 32 (ranked x z i k).val := by
  unfold val_main_indices val_main_v70
  rw [top_position, show (fun j => val_main_v69 (F := Ideal) x b (ix3 z i j)) = dist x z i from funext fun j => ref_dist x b hb z i j]
  rfl

/-- The distances of the ranked residues. -/
theorem ref_value (z : Fin 2) (i : Fin 512) (k : Fin 30) : val_main_v71 (F := Ideal) x b (ix3 z i k) = dist x z i (ranked x z i k) := by
  unfold val_main_v71 val_main_values val_main_v70
  show (-((Host.topK S2x512x30 2 (FloatOps.cmpfTotal (F := Ideal) (φ := .f32) .gt) (Host.negf (val_main_v69 (F := Ideal) x b)) sliceFits_S2x512x512_S2x512x30).1 (ix3 z i k)) : EReal) = _
  rw [top_value, neg_neg, ref_dist x b hb, show (fun j => val_main_v69 (F := Ideal) x b (ix3 z i j)) = dist x z i from funext fun j => ref_dist x b hb z i j]
  rfl

/-- No neighbour is masked. -/
theorem ref_masked (z : Fin 2) (i : Fin 512) (k : Fin 30) : val_main_v76 (F := Ideal) x b (ix3 z i k) = 0#1 := by
  have h13 : val_main_call1_v13 (F := Ideal) x b (ix3 z i k) = 0#1 := by
    unfold val_main_call1_v13
    show val_main_v75 (F := Ideal) b _ = 0#1
    rw [val_main_v75_apply, val_main_v74_apply, hb]
  have h4 : ∀ y, ∃ j : Fin 512, val_main_call1_v4 (F := Ideal) x b y = BitVec.ofNat 32 j.val := by
    intro y
    idx_vars y
    refine ⟨ranked x y0 y1 y2, ?_⟩
    have hp := ref_position x b hb y0 y1 y2
    unfold val_main_call1_v4 val_main_call1_v1 val_main_call1_v3
    generalize val_main_indices (F := Ideal) x b = I at hp ⊢
    show Scalar.select (IntOp.cmpi .slt (I (ix3 y0 y1 y2)) 0#32) _ (I (ix3 y0 y1 y2)) = _
    rw [hp, (small_word _).1]
    rfl
  have h12 : val_main_call1_v12 (F := Ideal) x b (ix3 z i k) = 1#1 := by
    unfold val_main_call1_v12
    refine all_ones _ (fun y => ?_) _
    rw [val_main_call1_v11_apply, val_main_call1_v7_apply, val_main_call1_v10_apply, val_main_call1_v5_apply]
    obtain ⟨j, hj⟩ := h4 (idx_main_call1_v5 y)
    rw [hj]
    show IntOp.andi (IntOp.cmpi .sge (BitVec.ofNat 32 j.val) 0#32) (IntOp.cmpi .sle (BitVec.ofNat 32 j.val) 511#32) = 1#1
    rw [(small_word j).2.1, (small_word j).2.2.1]
    decide
  rw [val_main_v76_apply, h12, h13]
  rfl

open Classical in
/-- The reference's mask of near neighbours. -/
theorem ref_near (z : Fin 2) (i : Fin 512) (k : Fin 30) : val_main_v86 (F := Ideal) x b (ix3 z i k) = if keeps x z i k then 1#1 else 0#1 := by
  have h80 : val_main_v80 (F := Ideal) x b (ix3 z i k) = 1#1 := by
    rw [val_main_v80_apply, val_main_v79_apply, ref_masked x b hb, val_main_v78_apply, val_main_v77_apply, hb]
    decide
  rw [val_main_v86_apply, val_main_v83_apply, h80, val_main_v82_apply, val_main_v85_apply, ref_value x b hb]
  show IntOp.andi (IntOp.andi 1#1 (BitVec.ofBool (decide (dist x z i (ranked x z i k) ≠ Ideal.ofBits .f32 0x00000000#32))))
    (BitVec.ofBool (decide (dist x z i (ranked x z i k) < Ideal.ofBits .f32 0x41400000#32))) = _
  rw [show Ideal.ofBits .f32 0x00000000#32 = 0 from by pointwise]
  unfold keeps
  by_cases h1 : dist x z i (ranked x z i k) ≠ 0 <;> by_cases h2 : dist x z i (ranked x z i k) < Ideal.ofBits .f32 0x41400000#32
  · rw [if_pos ⟨h1, h2⟩, decide_eq_true h1, decide_eq_true h2]; decide
  · rw [if_neg fun n => h2 n.2, decide_eq_true h1, decide_eq_false h2]; decide
  · rw [if_neg fun n => h1 n.1, decide_eq_false h1, decide_eq_true h2]; decide
  · rw [if_neg fun n => h1 n.1, decide_eq_false h1, decide_eq_false h2]; decide

/-- The reference's neighbours. -/
theorem ref_neighbours : val_main_v87 (F := Ideal) x b = neighbours x := by
  funext y
  idx_vars y
  rw [val_main_v87_apply, ref_near x b hb, ref_position x b hb]
  show _ = BitVec.ofNat 32 (neighbour x y0 y1 y2).val
  by_cases hk : keeps x y0 y1 y2
  · rw [if_pos hk, show neighbour x y0 y1 y2 = ranked x y0 y1 y2 from if_pos hk]
    rfl
  · rw [if_neg hk, show neighbour x y0 y1 y2 = y1 from if_neg hk]
    show val_main_call2_v0 (F := Ideal) (ix3 y0 y1 y2) = BitVec.ofNat 32 y1.val
    pointwise [val_main_call2_v0, val_main_v73, val_main_v72]

end Near

end Cert.Feat

end
-- ==== Proof.Feat.Gathers.lean ====
/-
  The reference's two gathers read at an index: the atoms of a neighbour and the decoding order of a neighbour.
-/
module

public import proofs.«01_k».proof.Proof.Feat.RefNear

@[expose] public section

set_option maxRecDepth 16384

noncomputable section

namespace Cert.Feat

open Idealize.ShloMosaic Idealize.ShloMosaic.TcCoe Idealize.SL.Sem Idealize.ShloMosaic.StableHlo
open Cert.ReferenceIdeal Cert.ReferenceIdeal.Gen Cert.ReferenceIdeal.Read

/-- The gather of atoms: the table at the batch and the residue the index names. -/
theorem gather_atoms {α : Type} (x : S2x512x4x3.Idx → α) (I : IVec S2x512x30x2 32) (z z' : Fin 2) (i j : Fin 512) (k : Fin 30) (a : Fin 4) (e : Fin 3)
    (hz : (I (ix4 z i k 0)).toInt = (z'.val : ℤ)) (hj : (I (ix4 z i k 1)).toInt = (j.val : ℤ)) :
    Host.gather gather_S2x512x4x3_S2x512x30x2_S2x512x30x4x3_34_01_n_n_01_3_1143 x I (ix5 z i k a e) = x (ix4 z' j a e) := by
  have hs0 : gather_S2x512x4x3_S2x512x30x2_S2x512x30x4x3_34_01_n_n_01_3_1143.siIdx (ix5 z i k a e : S2x512x30x4x3.Idx) ⟨List.idxOf (0 : Fin 4) gather_S2x512x4x3_S2x512x30x2_S2x512x30x4x3_34_01_n_n_01_3_1143.startIndexMap,
      List.idxOf_lt_length_iff.2 (by decide)⟩ = ix4 z i k 0 := by
    funext b; refine Fin.ext ?_
    match b with
    | ⟨0, _⟩ => rfl
    | ⟨1, _⟩ => rfl
    | ⟨2, _⟩ => rfl
    | ⟨3, _⟩ => rfl
  have hs1 : gather_S2x512x4x3_S2x512x30x2_S2x512x30x4x3_34_01_n_n_01_3_1143.siIdx (ix5 z i k a e : S2x512x30x4x3.Idx) ⟨List.idxOf (1 : Fin 4) gather_S2x512x4x3_S2x512x30x2_S2x512x30x4x3_34_01_n_n_01_3_1143.startIndexMap,
      List.idxOf_lt_length_iff.2 (by decide)⟩ = ix4 z i k 1 := by
    funext b; refine Fin.ext ?_
    match b with
    | ⟨0, _⟩ => rfl
    | ⟨1, _⟩ => rfl
    | ⟨2, _⟩ => rfl
    | ⟨3, _⟩ => rfl
  unfold Host.gather
  congr 1
  funext b
  refine Fin.ext ?_
  show gather_S2x512x4x3_S2x512x30x2_S2x512x30x4x3_34_01_n_n_01_3_1143.start (ix5 z i k a e) I b + gather_S2x512x4x3_S2x512x30x2_S2x512x30x4x3_34_01_n_n_01_3_1143.batchCoord (ix5 z i k a e) b + gather_S2x512x4x3_S2x512x30x2_S2x512x30x4x3_34_01_n_n_01_3_1143.offCoord (ix5 z i k a e) b = _
  match b with
  | ⟨0, _⟩ =>
    rw [GatherDims.batchCoord_eq_zero _ _ _ List.not_mem_nil, GatherDims.offCoord_eq_zero _ _ _ (by decide +revert)]
    unfold GatherDims.start
    rw [dif_pos (by decide +revert)]
    erw [hs0]
    rw [hz]
    show min z'.val (2 - 1) + 0 + 0 = z'.val
    omega
  | ⟨1, _⟩ =>
    rw [GatherDims.batchCoord_eq_zero _ _ _ List.not_mem_nil, GatherDims.offCoord_eq_zero _ _ _ (by decide +revert)]
    unfold GatherDims.start
    rw [dif_pos (by decide +revert)]
    erw [hs1]
    rw [hj]
    show min j.val (512 - 1) + 0 + 0 = j.val
    omega
  | ⟨2, _⟩ =>
    rw [GatherDims.batchCoord_eq_zero _ _ _ List.not_mem_nil]
    unfold GatherDims.start
    rw [dif_neg (by decide +revert)]
    show 0 + 0 + a.val = a.val
    omega
  | ⟨3, _⟩ =>
    rw [GatherDims.batchCoord_eq_zero _ _ _ List.not_mem_nil]
    unfold GatherDims.start
    rw [dif_neg (by decide +revert)]
    show 0 + 0 + e.val = e.val
    omega

/-- The gather along the residues: the table at the residue the index names. -/
theorem gather_along {α : Type} (x : S2x512x30.Idx → α) (I : IVec S2x512x30x1 32) (z : Fin 2) (i j : Fin 512) (k : Fin 30)
    (hj : (I (ix4 z i k 0)).toInt = (j.val : ℤ)) :
    Host.gather gather_S2x512x30_S2x512x30x1_S2x512x30_n_1_02_02_1_3_111 x I (ix3 z i k) = x (ix3 z j k) := by
  have hs1 : gather_S2x512x30_S2x512x30x1_S2x512x30_n_1_02_02_1_3_111.siIdx (ix3 z i k : S2x512x30.Idx) ⟨List.idxOf (1 : Fin 3) gather_S2x512x30_S2x512x30x1_S2x512x30_n_1_02_02_1_3_111.startIndexMap,
      List.idxOf_lt_length_iff.2 (by decide)⟩ = ix4 z i k 0 := by
    funext b; refine Fin.ext ?_
    match b with
    | ⟨0, _⟩ => rfl
    | ⟨1, _⟩ => rfl
    | ⟨2, _⟩ => rfl
    | ⟨3, _⟩ => rfl
  unfold Host.gather
  congr 1
  funext b
  refine Fin.ext ?_
  show gather_S2x512x30_S2x512x30x1_S2x512x30_n_1_02_02_1_3_111.start (ix3 z i k) I b + gather_S2x512x30_S2x512x30x1_S2x512x30_n_1_02_02_1_3_111.batchCoord (ix3 z i k) b + gather_S2x512x30_S2x512x30x1_S2x512x30_n_1_02_02_1_3_111.offCoord (ix3 z i k) b = _
  match b with
  | ⟨0, _⟩ =>
    rw [GatherDims.offCoord_eq_zero _ _ _ (by decide +revert)]
    unfold GatherDims.start
    rw [dif_neg (by decide +revert)]
    show 0 + z.val + 0 = z.val
    omega
  | ⟨1, _⟩ =>
    rw [GatherDims.batchCoord_eq_zero _ _ _ (by decide +revert), GatherDims.offCoord_eq_zero _ _ _ (by decide +revert)]
    unfold GatherDims.start
    rw [dif_pos (by decide +revert)]
    erw [hs1]
    rw [hj]
    show min j.val (512 - 1) + 0 + 0 = j.val
    omega
  | ⟨2, _⟩ =>
    rw [GatherDims.offCoord_eq_zero _ _ _ (by decide +revert)]
    unfold GatherDims.start
    rw [dif_neg (by decide +revert)]
    show 0 + k.val + 0 = k.val
    omega

end Cert.Feat

end
-- ==== Proof.Feat.RefEdge.lean ====
/-
  The reference's edge features: the atoms of the neighbours, the distances, the bumps, and their normalised projection.
-/
module

public import proofs.«01_k».proof.Proof.Feat.Gathers

@[expose] public section

set_option maxRecDepth 16384

noncomputable section

namespace Cert.Feat

open Idealize.ShloMosaic Idealize.ShloMosaic.TcCoe Idealize.SL.Sem Idealize.ShloMosaic.StableHlo
open Cert.ReferenceIdeal Cert.ReferenceIdeal.Gen Cert.ReferenceIdeal.Read

/-- The words zero and one are not negative. -/
theorem batch_word : ∀ z : Fin 2, IntOp.cmpi .slt (BitVec.ofNat 32 z.val) 0#32 = 0#1 ∧ (BitVec.ofNat 32 z.val).toInt = (z.val : ℤ) := by
  decide

/-- The zero word. -/
theorem zero_word : (Ideal.ofBits .f32 0x00000000#32 : EReal) = 0 := by
  pointwise

/-- The number of features as a word is 256, which is positive. -/
theorem count_word : (Ideal.ofBits .f32 0x43800000#32 : EReal) = ((256 : ℝ) : EReal) := by
  simp [Ideal.ofBits, Ideal.ieee, -EReal.coe_mul]; norm_num

/-- The number of features less nothing. -/
theorem count_less : val_main_call3_v8 (F := Ideal) (Shape.Idx.first h_S_) = Ideal.ofBits .f32 0x43800000#32 := by
  show (Ideal.ofBits .f32 0x43800000#32 - (((0#32 : BitVec 32).toInt : ℝ) : EReal) : EReal) = _
  rw [show (0#32 : BitVec 32).toInt = 0 from by decide, Int.cast_zero, EReal.coe_zero, sub_zero]

/-- The number of features is positive. -/
theorem count_pos : val_main_call3_v13 (F := Ideal) (Shape.Idx.first h_S_) = 1#1 := by
  unfold val_main_call3_v13
  show FloatOps.cmpf (F := Ideal) (φ := .f32) .ogt (val_main_call3_v8 (F := Ideal) (Shape.Idx.first h_S_)) (Ideal.ofBits .f32 0x00000000#32) = 1#1
  rw [count_less, count_word, show Ideal.ofBits .f32 0x00000000#32 = 0 from by pointwise]
  show BitVec.ofBool (decide ((0 : EReal) < ((256 : ℝ) : EReal))) = 1#1
  rw [decide_eq_true (by exact_mod_cast (by norm_num : (0 : ℝ) < 256))]
  rfl

section Edge

variable (x : FVec Ideal S2x512x3x3 .f32) (b : IVec S2x512 1) (hb : ∀ y, b y = 0#1)

include hb

/-- The atoms of the neighbours. -/
theorem ref_other (z : Fin 2) (i : Fin 512) (k : Fin 30) (a : Fin 4) (e : Fin 3) :
    val_main_v104 (F := Ideal) x b (ix5 z i k a e) = atoms x a (ix3 z (neighbour x z i k) e) := by
  have h0 : val_main_v103 (F := Ideal) x b (ix4 z i k 0) = BitVec.ofNat 32 z.val := by
    have hz : val_main_v103 (F := Ideal) x b (ix4 z i k 0) = Scalar.select (IntOp.cmpi .slt (BitVec.ofNat 32 z.val) 0#32) (IntOp.addi (BitVec.ofNat 32 z.val) 2#32) (BitVec.ofNat 32 z.val) := by
      unfold val_main_v103 val_main_v102 val_main_v101 val_main_v100 val_main_v94 val_main_v93 val_main_v92 val_main_v91 val_main_v90 val_main_v89 val_main_v88 val_main_c val_main_c_6
      generalize val_main_v99 (F := Ideal) x b = V
      pointwise
    rw [hz, (batch_word z).1]
    rfl
  have h1 : val_main_v103 (F := Ideal) x b (ix4 z i k 1) = BitVec.ofNat 32 (neighbour x z i k).val := by
    have h99 : val_main_v99 (F := Ideal) x b (ix3 z i k) = BitVec.ofNat 32 (neighbour x z i k).val := by
      unfold val_main_v99 val_main_v98 val_main_v96
      rw [ref_neighbours x b hb]
      show Scalar.select (IntOp.cmpi .slt (BitVec.ofNat 32 (neighbour x z i k).val) 0#32) _ (BitVec.ofNat 32 (neighbour x z i k).val) = _
      rw [(small_word _).1]
      rfl
    rw [← h99]
    unfold val_main_v103 val_main_v102
    generalize val_main_v99 (F := Ideal) x b = V
    generalize val_main_v101 (F := Ideal) = W
    pointwise
  unfold val_main_v104
  rw [gather_atoms _ _ z z i (neighbour x z i k) k a e (by rw [h0, (batch_word z).2]) (by rw [h1, (small_word _).2.2.2]), ref_atoms]

/-- The distances of the pairs of atoms. -/
theorem ref_pair (z : Fin 2) (i : Fin 512) (k : Fin 30) (a c : Fin 4) :
    val_main_v114 (F := Ideal) x b (ix5 z i k a c) =
      Ideal.sqrt ((∑ e : Fin 3, (atoms x a (ix3 z i e) - atoms x c (ix3 z (neighbour x z i k) e)) * (atoms x a (ix3 z i e) - atoms x c (ix3 z (neighbour x z i k) e)))
        + Ideal.ofBits .f32 0x3089705F#32) := by
  have hp := fun e => ref_atoms x z i a e
  have hq := fun e => ref_other x b hb z i k c e
  have h109 : ∀ e, val_main_v109 (F := Ideal) x b (ix6 z i k a c e) = (atoms x a (ix3 z i e) - atoms x c (ix3 z (neighbour x z i k) e) : EReal) := by
    intro e
    rw [← hp, ← hq]
    unfold val_main_v109 val_main_v108 val_main_v107 val_main_v106 val_main_v105
    generalize val_main_v63 (F := Ideal) x = V
    generalize val_main_v104 (F := Ideal) x b = W
    pointwise
  have h111 : val_main_v111 (F := Ideal) x b (ix5 z i k a c) =
      ∑ e : Fin 3, (atoms x a (ix3 z i e) - atoms x c (ix3 z (neighbour x z i k) e)) * (atoms x a (ix3 z i e) - atoms x c (ix3 z (neighbour x z i k) e)) := by
    rw [val_main_v111_apply, show val_main_cst_9 (F := Ideal) (Shape.Idx.first h_S_) = (0 : EReal) from zero_word, zero_add]
    refine Finset.sum_congr rfl fun e _ => ?_
    rw [← h109]
    exact congrArg (val_main_v110 (F := Ideal) x b) (funext fun r => by match r with | ⟨0, _⟩ => rfl | ⟨1, _⟩ => rfl | ⟨2, _⟩ => rfl | ⟨3, _⟩ => rfl | ⟨4, _⟩ => rfl | ⟨5, _⟩ => rfl)
  rw [← h111]
  unfold val_main_v114 val_main_v113 val_main_v112 val_main_cst_10
  generalize val_main_v111 (F := Ideal) x b = V
  pointwise

/-- The bumps. -/
theorem ref_bump (cent : FVec Ideal S16 .f32) (z : Fin 2) (i : Fin 512) (k : Fin 30) (q : Fin 256) :
    val_main_v125 (F := Ideal) x b cent (ix4 z i k q) =
      bump (pairDist (fun a e => atoms x a (ix3 z i e)) (fun a e => atoms x a (ix3 z (neighbour x z i k) e))) (fun p => cent (ix1 p)) q := by
  have hd : val_main_v114 (F := Ideal) x b (ix5 z i k ⟨q.val / 64, by omega⟩ ⟨q.val / 16 % 4, by omega⟩) =
      pairDist (fun a e => atoms x a (ix3 z i e)) (fun a e => atoms x a (ix3 z (neighbour x z i k) e)) ⟨q.val / 16, by omega⟩ := by
    rw [ref_pair x b hb]
    unfold pairDist
    rw [show (⟨q.val / 64, by omega⟩ : Fin 4) = ⟨q.val / 16 / 4, by omega⟩ from Fin.ext (by show q.val / 64 = q.val / 16 / 4; omega)]
  unfold bump
  rw [← hd]
  unfold val_main_v125
  have h124 : val_main_v124 (F := Ideal) x b cent (ix6 z i k ⟨q.val / 64, by omega⟩ ⟨q.val / 16 % 4, by omega⟩ ⟨q.val % 16, by omega⟩) =
      Ideal.exp (Ideal.div (-((val_main_v114 (F := Ideal) x b (ix5 z i k ⟨q.val / 64, by omega⟩ ⟨q.val / 16 % 4, by omega⟩) - cent (ix1 ⟨q.val % 16, by omega⟩)) *
        (val_main_v114 (F := Ideal) x b (ix5 z i k ⟨q.val / 64, by omega⟩ ⟨q.val / 16 % 4, by omega⟩) - cent (ix1 ⟨q.val % 16, by omega⟩)))) (Ideal.ofBits .f32 0x3FC80000#32)) := by
    unfold val_main_v124 val_main_v123 val_main_v122 val_main_cst_11 val_main_v121 val_main_v120 val_main_v119 val_main_v118 val_main_v117 val_main_v116 val_main_v115
    generalize val_main_v114 (F := Ideal) x b = D
    pointwise
  rw [← h124]
  generalize val_main_v124 (F := Ideal) x b cent = B
  pointwise

/-- The mean of a residue's features. -/
theorem ref_mean (cent : FVec Ideal S16 .f32) (z : Fin 2) (i : Fin 512) (k : Fin 30) (B : Fin 256 → EReal) (hB : ∀ q, val_main_v125 (F := Ideal) x b cent (ix4 z i k q) = B q) :
    val_main_v129 (F := Ideal) x b cent (ix4 z i k 0) = mean B := by
  have h126 : val_main_v126 (F := Ideal) x b cent (ix3 z i k) = ∑ q, B q := by
    rw [val_main_v126_apply, show val_main_cst_12 (F := Ideal) (Shape.Idx.first h_S_) = (0 : EReal) from zero_word, zero_add]
    refine Finset.sum_congr rfl fun q _ => ?_
    rw [← hB]
    exact congrArg (val_main_v125 (F := Ideal) x b cent) (funext fun r => by match r with | ⟨0, _⟩ => rfl | ⟨1, _⟩ => rfl | ⟨2, _⟩ => rfl | ⟨3, _⟩ => rfl)
  unfold mean
  rw [← h126]
  unfold val_main_v129 val_main_v128 val_main_v127 val_main_cst_13
  generalize val_main_v126 (F := Ideal) x b cent = V
  pointwise

/-- The variance of a residue's features. -/
theorem ref_variance (cent : FVec Ideal S16 .f32) (z : Fin 2) (i : Fin 512) (k : Fin 30) (B : Fin 256 → EReal) (hB : ∀ q, val_main_v125 (F := Ideal) x b cent (ix4 z i k q) = B q) :
    val_main_v130 (F := Ideal) x b cent (ix4 z i k 0) = variance B := by
  have hm : val_main_call3_v3 (F := Ideal) x b cent (ix4 z i k 0) = mean B := ref_mean x b hb cent z i k B hB
  have h5 : ∀ q, val_main_call3_v5 (F := Ideal) x b cent (ix4 z i k q) = (B q - mean B : EReal) := by
    intro q
    rw [← hm, ← hB]
    unfold val_main_call3_v5 val_main_call3_v4
    generalize val_main_call3_v3 (F := Ideal) x b cent = V
    generalize val_main_v125 (F := Ideal) x b cent = W
    pointwise
  have h9 : val_main_call3_v9 (F := Ideal) x b cent (ix3 z i k) = ∑ q, (B q - mean B) * (B q - mean B) := by
    rw [val_main_call3_v9_apply, show val_main_call3_cst_2 (F := Ideal) (Shape.Idx.first h_S_) = (0 : EReal) from zero_word, zero_add]
    refine Finset.sum_congr rfl fun q _ => ?_
    rw [← h5]
    exact congrArg (val_main_call3_v6 (F := Ideal) x b cent) (funext fun r => by match r with | ⟨0, _⟩ => rfl | ⟨1, _⟩ => rfl | ⟨2, _⟩ => rfl | ⟨3, _⟩ => rfl)
  have h8 := count_less
  have h13 := count_pos
  have h12 : val_main_call3_v12 (F := Ideal) x b cent (ix4 z i k 0) = variance B := by
    unfold variance
    rw [← h9, ← h8]
    unfold val_main_call3_v12 val_main_call3_v11 val_main_call3_v10
    generalize val_main_call3_v9 (F := Ideal) x b cent = V
    generalize val_main_call3_v8 (F := Ideal) = W
    pointwise
    exact congrArg (fun t => Ideal.div (V (ix3 z i k)) (W t)) (Subsingleton.elim _ _)
  rw [← h12]
  unfold val_main_v130
  generalize val_main_call3_v12 (F := Ideal) x b cent = V
  generalize val_main_call3_call0_v1 (F := Ideal) = U
  generalize val_main_call3_v13 (F := Ideal) = W at h13
  have hw : broadcastInDim S2x512x30x1 ![] bcast_S_S2x512x30x1 W (ix4 z i k 0) = 1#1 := by
    rw [← h13]
    exact congrArg W (Subsingleton.elim _ _)
  show Scalar.select (broadcastInDim S2x512x30x1 ![] bcast_S_S2x512x30x1 W (ix4 z i k 0)) _ _ = _
  rw [hw]
  rfl

/-- The reference's edge features. -/
theorem ref_edge (g s : FVec Ideal S256 .f32) (w : FVec Ideal S256x128 .f32) (c : FVec Ideal S128 .f32) (cent : FVec Ideal S16 .f32) (z : Fin 2) (i : Fin 512) (k : Fin 30) (n : Fin 128) :
    val_main_v147 (F := Ideal) x b g s w c cent (ix4 z i k n) = edgeAt x g s w c cent z i k n := by
  have hB := ref_bump x b hb cent z i k
  unfold edgeAt
  generalize bump (pairDist (fun a e => atoms x a (ix3 z i e)) (fun a e => atoms x a (ix3 z (neighbour x z i k) e))) (fun p => cent (ix1 p)) = B at hB ⊢
  have hm := ref_mean x b hb cent z i k B hB
  have hv := ref_variance x b hb cent z i k B hB
  have h143 : ∀ q, val_main_v143 (F := Ideal) x b g s cent (ix4 z i k q) =
      (Ideal.div (B q - mean B) (Ideal.sqrt (variance B + Ideal.ofBits .f32 0x3727C5AC#32)) * g (ix1 q) + s (ix1 q) : EReal) := by
    intro q
    rw [← hm, ← hv, ← hB]
    unfold val_main_v143 val_main_v142 val_main_v141 val_main_v140 val_main_v139 val_main_v138 val_main_v137 val_main_v136 val_main_v135 val_main_v134 val_main_v133 val_main_v132 val_main_v131 val_main_cst_15
    generalize val_main_v129 (F := Ideal) x b cent = V
    generalize val_main_v130 (F := Ideal) x b cent = U
    generalize val_main_v125 (F := Ideal) x b cent = W
    pointwise
  have h144 : val_main_v144 (F := Ideal) x b g s w cent (ix4 z i k n) =
      ∑ q, (Ideal.div (B q - mean B) (Ideal.sqrt (variance B + Ideal.ofBits .f32 0x3727C5AC#32)) * g (ix1 q) + s (ix1 q)) * w (ix2 q n) := by
    rw [val_main_v144_apply]
    refine Finset.sum_congr rfl fun q _ => ?_
    rw [← h143]
    exact congrArg₂ (fun u v : EReal => u * v)
      (congrArg (val_main_v143 (F := Ideal) x b g s cent) (funext fun r => by match r with | ⟨0, _⟩ => rfl | ⟨1, _⟩ => rfl | ⟨2, _⟩ => rfl | ⟨3, _⟩ => rfl))
      (congrArg w (funext fun r => by match r with | ⟨0, _⟩ => rfl | ⟨1, _⟩ => rfl))
  unfold project
  rw [← h144]
  unfold val_main_v147 val_main_v146 val_main_v145
  generalize val_main_v144 (F := Ideal) x b g s w cent = V
  pointwise

end Edge

end Cert.Feat

end
-- ==== Proof.Feat.RefRest.lean ====
/-
  The reference's features of the letters and its mask of earlier neighbours.
-/
module

public import proofs.«01_k».proof.Proof.Feat.Gathers

@[expose] public section

set_option maxRecDepth 16384

noncomputable section

namespace Cert.Feat

open Idealize.ShloMosaic Idealize.ShloMosaic.TcCoe Idealize.SL.Sem Idealize.ShloMosaic.StableHlo
open Cert.ReferenceIdeal Cert.ReferenceIdeal.Gen Cert.ReferenceIdeal.Read

/-! ## The letters -/

/-- One bit as a number. -/
theorem bit_value (c : BitVec 1) : FloatOps.uitofp (F := Ideal) FTy.f32 c = if c = 1#1 then (1 : EReal) else 0 := by
  show ((c.toNat : ℝ) : EReal) = _
  rcases (by decide +revert : c = 0#1 ∨ c = 1#1) with rfl | rfl
  · rw [if_neg (by decide)]
    simp
  · rw [if_pos rfl]
    simp

/-- The reference's features of the letters, where no letter is the word minus one. -/
theorem ref_letters (q : IVec S2x512 32) (w : FVec Ideal S21x128 .f32) (b : FVec Ideal S128 .f32) (hq : ∀ y, q y ≠ 4294967295#32)
    (z : Fin 2) (i : Fin 512) (n : Fin 128) : val_main_v160 (F := Ideal) q w b (ix3 z i n) = letterAt q w b z i n := by
  have h149 : ∀ y, val_main_v149 (F := Ideal) q y = 0#1 := by
    intro y
    show IntOp.cmpi .eq (q y) 4294967295#32 = 0#1
    rw [WordCmp.cmpi_eq_eq, decide_eq_false (hq y)]
    rfl
  have h150 : val_main_v150 (F := Ideal) q = q := by
    funext y
    rw [val_main_v150_apply, h149]
    rfl
  have h159 : val_main_v159 (F := Ideal) q (ix3 z i n) = (1 : EReal) := by
    rw [val_main_v159_apply, val_main_v154_apply, val_main_v153_apply, val_main_v152_apply, h149, bit_value, if_pos (by decide)]
  have h151 : ∀ x : Fin 21, val_main_v151 (F := Ideal) q (ix3 z i x) = if q (ix2 z i) = BitVec.ofNat 32 x.val then (1 : EReal) else 0 := by
    intro x
    rw [val_main_v151_apply, bit_value]
    refine if_congr ?_ rfl rfl
    have hc : val_main_call5_v4 (F := Ideal) q (ix3 z i x) = IntOp.cmpi .eq (q (ix2 z i)) (BitVec.ofNat 32 x.val) := by
      unfold val_main_call5_v4 val_main_call5_v3 val_main_call5_v2 val_main_call5_v1 val_main_call5_v0
      rw [h150]
      pointwise
    rw [hc]
    rw [WordCmp.cmpi_eq_eq]
    by_cases h : q (ix2 z i) = BitVec.ofNat 32 x.val
    · simp [h]
    · simp [h]
  rw [val_main_v160_apply, h159]
  show (1 : EReal) * _ = _
  rw [one_mul]
  unfold val_main_v158 val_main_v157 val_main_v156 val_main_v155 letterAt
  generalize val_main_v151 (F := Ideal) q = O at h151 ⊢
  pointwise
  simp only [h151]

/-! ## The earlier neighbours -/

section Earlier

variable (x : FVec Ideal S2x512x3x3 .f32) (b : IVec S2x512 1) (hb : ∀ y, b y = 0#1)

include hb

/-- The reference's mask of earlier neighbours. -/
theorem ref_earlier (o : IVec S2x512 32) (z : Fin 2) (i : Fin 512) (k : Fin 30) :
    val_main_v165 (F := Ideal) x b o (ix3 z i k) = BitVec.ofBool (before x o z i k) := by
  have h4 : ∀ (z : Fin 2) (i : Fin 512) (k : Fin 30), val_main_call6_v4 (F := Ideal) x b (ix3 z i k) = BitVec.ofNat 32 (neighbour x z i k).val := by
    intro z i k
    unfold val_main_call6_v4 val_main_call6_v1 val_main_call6_v3
    rw [ref_neighbours x b hb]
    show Scalar.select (IntOp.cmpi .slt (BitVec.ofNat 32 (neighbour x z i k).val) 0#32) _ (BitVec.ofNat 32 (neighbour x z i k).val) = _
    rw [(small_word _).1]
    rfl
  have h5 : val_main_call6_v5 (F := Ideal) x b (ix4 z i k 0) = BitVec.ofNat 32 (neighbour x z i k).val := by
    rw [← h4]
    unfold val_main_call6_v5
    generalize val_main_call6_v4 (F := Ideal) x b = V
    pointwise
  have h12 : val_main_call6_v12 (F := Ideal) x b (ix3 z i k) = 1#1 := by
    unfold val_main_call6_v12
    refine all_ones _ (fun y => ?_) _
    rw [val_main_call6_v11_apply, val_main_call6_v7_apply, val_main_call6_v10_apply, val_main_call6_v5_apply]
    generalize idx_main_call6_v5 y = y'
    idx_vars y'
    rw [h4]
    show IntOp.andi (IntOp.cmpi .sge (BitVec.ofNat 32 _) 0#32) (IntOp.cmpi .sle (BitVec.ofNat 32 _) 511#32) = 1#1
    rw [(small_word _).2.1, (small_word _).2.2.1]
    decide
  have h162 : ∀ j : Fin 512, val_main_v162 (F := Ideal) o (ix3 z j k) = o (ix2 z j) := by
    intro j
    pointwise [val_main_v162, val_main_v161]
  have h13 : val_main_call6_v13 (F := Ideal) x b o (ix3 z i k) = o (ix2 z (neighbour x z i k)) := by
    unfold val_main_call6_v13
    rw [gather_along _ _ z i (neighbour x z i k) k (by rw [h5, (small_word _).2.2.2]), h162]
  have h164 : val_main_v164 (F := Ideal) o (ix3 z i k) = o (ix2 z i) := by
    pointwise [val_main_v164, val_main_v161]
  rw [val_main_v165_apply, val_main_v163_apply, h12, h13, h164]
  rfl

end Earlier

end Cert.Feat

end
-- ==== Proof.Feat.ReferenceRun.lean ====
/-
  The reference's five results are the kernel's functions of the arguments, and the run that leaves them.
-/
module

public import proofs.«01_k».proof.Proof.Feat.KernelValue
public import proofs.«01_k».proof.Proof.Feat.RefEdge
public import proofs.«01_k».proof.Proof.Feat.RefRest
public import proofs.«01_k».proof.Proof.Gen.ReferenceIdeal.Run

@[expose] public section

set_option maxRecDepth 16384

noncomputable section

namespace Cert.Feat

open Idealize.ShloMosaic Idealize.ShloMosaic.TcCoe Idealize.SL.Sem Idealize.ShloMosaic.StableHlo
open Cert.ReferenceIdeal Cert.ReferenceIdeal.Gen Cert.ReferenceIdeal.Read

/-- The reference's features of the letters, where no letter is the word minus one. -/
theorem ref_letters_table (q : IVec S2x512 32) (w : FVec Ideal S21x128 .f32) (b : FVec Ideal S128 .f32) (hq : ∀ y, q y ≠ 4294967295#32) :
    val_main_v160 (F := Ideal) q w b = letters q w b := by
  funext y
  idx_vars y
  exact ref_letters q w b hq y0 y1 y2

section Tables

variable (x : FVec Ideal S2x512x3x3 .f32) (b : IVec S2x512 1) (hb : ∀ y, b y = 0#1)

include hb

/-- The reference's edge features, where no residue is masked. -/
theorem ref_edge_table (g s : FVec Ideal S256 .f32) (w : FVec Ideal S256x128 .f32) (c : FVec Ideal S128 .f32) (cent : FVec Ideal S16 .f32) :
    val_main_v147 (F := Ideal) x b g s w c cent = edgeTable x g s w c cent := by
  funext y
  idx_vars y
  exact ref_edge x b hb g s w c cent y0 y1 y2 y3

/-- The reference's mask of near neighbours, where no residue is masked. -/
theorem ref_near_table : val_main_v86 (F := Ideal) x b = nearTable x := by
  funext y
  idx_vars y
  exact ref_near x b hb y0 y1 y2

/-- The reference's mask of earlier neighbours, where no residue is masked. -/
theorem ref_earlier_table (o : IVec S2x512 32) : val_main_v165 (F := Ideal) x b o = earlierTable x o := by
  funext y
  idx_vars y
  exact ref_earlier x b hb o y0 y1 y2

end Tables

/-- Every execution of the reference terminates; where no residue is masked and no letter is the word minus one it ends with
    the edge features, the neighbours, the features of the letters, the mask of near neighbours and the mask of earlier
    neighbours of its arguments, which are unchanged. -/
theorem reference_run (m : (ℓ : Loc nD τ sig) → Buf (Elt Ideal) ℓ) (ρ : Dev nD → PrngReg)
    (hq : ∀ (c : Dev nD) (y : S2x512.Idx), (m ((c.tc : Thread nD τ).loc main_arg1) : IVec S2x512 32) y ≠ 4294967295#32)
    (hb : ∀ (c : Dev nD) (y : S2x512.Idx), (m ((c.tc : Thread nD τ).loc main_arg3) : IVec S2x512 1) y = 0#1) :
    θ_run defs (onTc (τ := τ) (main (F := Ideal))) ⟨m, fun _ => 0, ρ⟩ (fun r => ∀ c : Dev nD,
      r.2.mem ((c.tc : Thread nD τ).loc main_v147) = edgeTable (m ((c.tc : Thread nD τ).loc main_arg0)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg17))
      ∧ r.2.mem ((c.tc : Thread nD τ).loc main_v87) = neighbours (m ((c.tc : Thread nD τ).loc main_arg0))
      ∧ r.2.mem ((c.tc : Thread nD τ).loc main_v160) = letters (m ((c.tc : Thread nD τ).loc main_arg1)) (m ((c.tc : Thread nD τ).loc main_arg15)) (m ((c.tc : Thread nD τ).loc main_arg16))
      ∧ r.2.mem ((c.tc : Thread nD τ).loc main_v86) = nearTable (m ((c.tc : Thread nD τ).loc main_arg0))
      ∧ r.2.mem ((c.tc : Thread nD τ).loc main_v165) = earlierTable (m ((c.tc : Thread nD τ).loc main_arg0)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) := by
  refine (θ_run defs _ _).mono (fun r h c => ?_) (Cert.ReferenceIdeal.Value.run m ρ)
  obtain ⟨h0, h1, h2, h3, h4, ha⟩ := h c
  exact ⟨h0.trans ((val_main_v147_eq (launchContents m c)).trans (ref_edge_table _ _ (hb c) _ _ _ _ _)),
    h1.trans ((val_main_v87_eq (launchContents m c)).trans (ref_neighbours _ _ (hb c))),
    h2.trans ((val_main_v160_eq (launchContents m c)).trans (ref_letters_table _ _ _ (hq c))),
    h3.trans ((val_main_v86_eq (launchContents m c)).trans (ref_near_table _ _ (hb c))),
    h4.trans ((val_main_v165_eq (launchContents m c)).trans (ref_earlier_table _ _ (hb c) _)), ha⟩

/-- Every execution of the reference terminates with its arguments unchanged and no counter away from zero. -/
theorem reference_frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun r h => ⟨fun c => (h c).2.2.2.2.2, Idealize.ShloMosaic.sem_eq_zero_of_no_sems (by decide) r.2⟩)
    (Cert.ReferenceIdeal.Value.run m ρ)

end Cert.Feat

end
-- ==== Proof.lean ====
/-
  The proof of `Cert.Claim`: the kernel, its reading over the extended reals and the reference each run with their arguments
  unchanged and every counter at zero, and where no residue is masked and no letter is the word minus one the kernel and the
  reference end with the same five results.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Feat.KernelRun
public import proofs.«01_k».proof.Proof.Feat.ReferenceRun
public import Idealize.ShloMosaic.Adequacy
public import Idealize.ShloMosaic.Init

@[expose] public section

noncomputable section

namespace Cert.Proof

open Idealize.ShloMosaic Idealize.ShloMosaic.TcCoe Idealize.SL.Sem

/-- The side condition of the precondition's one broadcast. -/
theorem pre_facts : Cert.Pre_no_masked_residue.Facts := ⟨by decide⟩

/-- A conjunction of two bits that is one has both bits one. -/
theorem both_one : ∀ c d : BitVec 1, IntOp.andi c d = 1#1 → c = 1#1 ∧ d = 1#1 := by
  decide

/-- A bit whose complement is one is zero. -/
theorem not_one : ∀ c : BitVec 1, (~~~c) = 1#1 → c = 0#1 := by
  decide

/-- Words compared unequal are unequal. -/
theorem ne_of_bit (u v : BitVec 32) (h : IntOp.cmpi .ne u v = 1#1) : u ≠ v := by
  rintro rfl
  revert h
  show ¬ (BitVec.ofBool (u != u) = 1#1)
  simp

/-- The precondition read at an index: the letter is not the word minus one and the residue is not masked. -/
theorem pre_read (q : IVec (⟨2, ![2, 512]⟩ : Shape) 32) (b : IVec (⟨2, ![2, 512]⟩ : Shape) 1) (y : (⟨2, ![2, 512]⟩ : Shape).Idx)
    (h : IntOp.andi (IntOp.cmpi .ne (q y) 4294967295#32) (~~~(b y)) = 1#1) : q y ≠ 4294967295#32 ∧ b y = 0#1 :=
  ⟨ne_of_bit _ _ (both_one _ _ h).1, not_one _ (both_one _ _ h).2⟩

/-- Over the extended reals, where no residue is masked and no letter is the word minus one, the kernel and the reference end
    with the same five results, their arguments unchanged. -/
theorem same_results : Cert.algebraic_KernelIdeal_ReferenceIdeal_pre_no_masked_residue (hKernelIdeal := Cert.KernelIdeal.Gen.facts) (hReferenceIdeal := Cert.ReferenceIdeal.Gen.facts) (hPre_no_masked_residue := pre_facts) := by
  intro m g m' g' hpre hargs
  have hp : ∀ (c : Dev Cert.KernelIdeal.nD) (y : (⟨2, ![2, 512]⟩ : Shape).Idx),
      (m ((c.tc : Thread Cert.KernelIdeal.nD Cert.KernelIdeal.τ).loc Cert.KernelIdeal.main_arg1) : IVec (⟨2, ![2, 512]⟩ : Shape) 32) y ≠ 4294967295#32 ∧
      (m ((c.tc : Thread Cert.KernelIdeal.nD Cert.KernelIdeal.τ).loc Cert.KernelIdeal.main_arg3) : IVec (⟨2, ![2, 512]⟩ : Shape) 1) y = 0#1 :=
    fun c y => pre_read _ _ y (congrFun (hpre c) y)
  have hk := Cert.Feat.kernel_run m g
  have hr := Cert.Feat.reference_run m' g'
    (fun c y => by rw [(hargs c).2.1]; exact (hp c y).1)
    (fun c y => by rw [(hargs c).2.2.2.1]; exact (hp c y).2)
  refine ⟨_, _, _, _, _, hk, (θ_run _ _ _).mono (fun r h c => ?_) hr⟩
  obtain ⟨h0, h1, h2, h3, h4, ha⟩ := h c
  obtain ⟨a0, a1, a2, a3, a4, a5, a6, a7, a8, a9, a10, a11, a12, a13, a14, a15, a16, a17⟩ := hargs c
  rw [a0, a11, a12, a13, a14, a17] at h0
  rw [a0] at h1
  rw [a1, a15, a16] at h2
  rw [a0] at h3
  rw [a0, a4] at h4
  exact ⟨h0, h1, h2, h3, h4, ha⟩

/-- Everything claimed of the kernel. -/
theorem claim : Cert.Claim := ⟨Cert.Kernel.Gen.facts, Cert.KernelIdeal.Gen.facts, Cert.ReferenceIdeal.Gen.facts, pre_facts,
  fun m ρ _ => Cert.Kernel.Gen.frame m ρ,
  fun m ρ _ => Cert.KernelIdeal.Gen.frame m ρ,
  fun m ρ _ => Cert.KernelIdeal.Gen.frame m ρ,
  fun m ρ _ => Cert.Feat.reference_frame m ρ,
  fun m ρ _ => Cert.Feat.reference_frame m ρ,
  trivial,
  same_results⟩

end Cert.Proof

end
